-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x768 : Shape := ⟨3, ![1, 2048, 768]⟩
abbrev S2048x16384 : Shape := ⟨2, ![2048, 16384]⟩
abbrev S768x6144 : Shape := ⟨2, ![768, 6144]⟩
abbrev S6144 : Shape := ⟨1, ![6144]⟩
abbrev S6144x768 : Shape := ⟨2, ![6144, 768]⟩
abbrev S768 : Shape := ⟨1, ![768]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S2048x16384 : S_.BroadcastsInDim S2048x16384 (![] : Fin 0 → Fin S2048x16384.rank)
  reducesTo_S2048x16384_S_d0_1 : S2048x16384.ReducesTo [0, 1] S_

variable [Facts]

def fn {F : FTy → Type} [FloatOps F] (main_arg0 : FVec F S1x2048x768 .f32) (main_arg1 : FVec F S2048x16384 .f32) (main_arg2 : FVec F S768x6144 .f32) (main_arg3 : FVec F S6144 .f32) (main_arg4 : FVec F S6144x768 .f32) (main_arg5 : FVec F S768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  main_v8
-- ==== Kernel.lean ====
abbrev S1x2048x768 : Shape := ⟨3, ![1, 2048, 768]⟩
abbrev S2048x16384 : Shape := ⟨2, ![2048, 16384]⟩
abbrev S768x6144 : Shape := ⟨2, ![768, 6144]⟩
abbrev S6144 : Shape := ⟨1, ![6144]⟩
abbrev S6144x768 : Shape := ⟨2, ![6144, 768]⟩
abbrev S768 : Shape := ⟨1, ![768]⟩
abbrev S2048x2048x8 : Shape := ⟨3, ![2048, 2048, 8]⟩
abbrev S2048x8x1x768 : Shape := ⟨4, ![2048, 8, 1, 768]⟩
abbrev S1x2048x768x8 : Shape := ⟨4, ![1, 2048, 768, 8]⟩
abbrev S_ : Shape := ⟨0, ![]⟩
abbrev S1x2048x8 : Shape := ⟨3, ![1, 2048, 8]⟩
abbrev S1x2048x1x8 : Shape := ⟨4, ![1, 2048, 1, 8]⟩
abbrev S1x8x2048 : Shape := ⟨3, ![1, 8, 2048]⟩
abbrev S1x8 : Shape := ⟨2, ![1, 8]⟩
abbrev S1x8x1 : Shape := ⟨3, ![1, 8, 1]⟩
abbrev S1x8x2 : Shape := ⟨3, ![1, 8, 2]⟩
abbrev S16 : Shape := ⟨1, ![16]⟩
abbrev S8 : Shape := ⟨1, ![8]⟩
abbrev S8x2 : Shape := ⟨2, ![8, 2]⟩
abbrev S2048x768x8 : Shape := ⟨3, ![2048, 768, 8]⟩
abbrev S16x1 : Shape := ⟨2, ![16, 1]⟩
abbrev S16x768x8 : Shape := ⟨3, ![16, 768, 8]⟩
abbrev S16x1x1 : Shape := ⟨3, ![16, 1, 1]⟩
abbrev S1 : Shape := ⟨1, ![1]⟩
abbrev S1x1x1 : Shape := ⟨3, ![1, 1, 1]⟩
abbrev S16x768x1 : Shape := ⟨3, ![16, 768, 1]⟩
abbrev S16x768 : Shape := ⟨2, ![16, 768]⟩
abbrev S16x8 : Shape := ⟨2, ![16, 8]⟩
abbrev S16x1x8 : Shape := ⟨3, ![16, 1, 8]⟩
abbrev S16x6144 : Shape := ⟨2, ![16, 6144]⟩
abbrev S2048x768 : Shape := ⟨2, ![2048, 768]⟩
abbrev S1x6144 : Shape := ⟨2, ![1, 6144]⟩
abbrev S1x768 : Shape := ⟨2, ![1, 768]⟩
abbrev S768x768 : Shape := ⟨2, ![768, 768]⟩

abbrev nBuf : Space → Nat
  | .hbm => 119
  | .vmem => 13
  | .smem => 1
  | _ => 0

abbrev bufTy : (tb : Table) → Fin (tcTables nBuf tb) → BufTy
  | .hbm, ⟨0, _⟩ => ⟨S1x2048x768, .f32⟩
  | .hbm, ⟨1, _⟩ => ⟨S2048x16384, .f32⟩
  | .hbm, ⟨2, _⟩ => ⟨S768x6144, .f32⟩
  | .hbm, ⟨3, _⟩ => ⟨S6144, .f32⟩
  | .hbm, ⟨4, _⟩ => ⟨S6144x768, .f32⟩
  | .hbm, ⟨5, _⟩ => ⟨S768, .f32⟩
  | .hbm, ⟨6, _⟩ => ⟨S2048x2048x8, .f32⟩
  | .hbm, ⟨7, _⟩ => ⟨S2048x8x1x768, .f32⟩
  | .hbm, ⟨8, _⟩ => ⟨S1x2048x768x8, .f32⟩
  | .hbm, ⟨9, _⟩ => ⟨S_, .f32⟩
  | .hbm, ⟨10, _⟩ => ⟨S1x2048x8, .f32⟩
  | .hbm, ⟨11, _⟩ => ⟨S_, .f32⟩
  | .hbm, ⟨12, _⟩ => ⟨S1x2048x8, .f32⟩
  | .hbm, ⟨13, _⟩ => ⟨S1x2048x8, .f32⟩
  | .hbm, ⟨14, _⟩ => ⟨S1x2048x1x8, .f32⟩
  | .hbm, ⟨15, _⟩ => ⟨S1x2048x768x8, .f32⟩
  | .hbm, ⟨16, _⟩ => ⟨S1x2048x768x8, .f32⟩
  | .hbm, ⟨17, _⟩ => ⟨S1x2048x768x8, .f32⟩
  | .hbm, ⟨18, _⟩ => ⟨S_, .f32⟩
  | .hbm, ⟨19, _⟩ => ⟨S1x2048x8, .f32⟩
  | .hbm, ⟨20, _⟩ => ⟨S1x2048x1x8, .f32⟩
  | .hbm, ⟨21, _⟩ => ⟨S1x2048x768x8, .f32⟩
  | .hbm, ⟨22, _⟩ => ⟨S1x2048x768x8, .f32⟩
  | .hbm, ⟨23, _⟩ => ⟨S_, .f32⟩
  | .hbm, ⟨24, _⟩ => ⟨S1x2048x8, .f32⟩
  | .hbm, ⟨25, _⟩ => ⟨S_, .f32⟩
  | .hbm, ⟨26, _⟩ => ⟨S1x2048x8, .f32⟩
  | .hbm, ⟨27, _⟩ => ⟨S1x2048x8, .f32⟩
  | .hbm, ⟨28, _⟩ => ⟨S1x8x2048, .f32⟩
  | .hbm, ⟨29, _⟩ => ⟨S1x8x2048, .i32⟩
  | .hbm, ⟨30, _⟩ => ⟨S_, .f32⟩
  | .hbm, ⟨31, _⟩ => ⟨S_, .i32⟩
  | .hbm, ⟨32, _⟩ => ⟨S1x8, .f32⟩
  | .hbm, ⟨33, _⟩ => ⟨S1x8, .i32⟩
  | .hbm, ⟨34, _⟩ => ⟨S1x8x2048, .i32⟩
  | .hbm, ⟨35, _⟩ => ⟨S1x8x1, .i32⟩
  | .hbm, ⟨36, _⟩ => ⟨S1x8x2048, .i32⟩
  | .hbm, ⟨37, _⟩ => ⟨S1x8x2048, .i1⟩
  | .hbm, ⟨38, _⟩ => ⟨S_, .f32⟩
  | .hbm, ⟨39, _⟩ => ⟨S_, .f32⟩
  | .hbm, ⟨40, _⟩ => ⟨S1x8x2048, .f32⟩
  | .hbm, ⟨41, _⟩ => ⟨S1x8x2048, .f32⟩
  | .hbm, ⟨42, _⟩ => ⟨S1x8x2048, .i32⟩
  | .hbm, ⟨43, _⟩ => ⟨S_, .f32⟩
  | .hbm, ⟨44, _⟩ => ⟨S_, .i32⟩
  | .hbm, ⟨45, _⟩ => ⟨S1x8, .f32⟩
  | .hbm, ⟨46, _⟩ => ⟨S1x8, .i32⟩
  | .hbm, ⟨47, _⟩ => ⟨S1x8x1, .i32⟩
  | .hbm, ⟨48, _⟩ => ⟨S1x8x1, .i32⟩
  | .hbm, ⟨49, _⟩ => ⟨S1x8x2, .i32⟩
  | .hbm, ⟨50, _⟩ => ⟨S16, .i32⟩
  | .hbm, ⟨51, _⟩ => ⟨S8, .i32⟩
  | .hbm, ⟨52, _⟩ => ⟨S8x2, .i32⟩
  | .hbm, ⟨53, _⟩ => ⟨S16, .i32⟩
  | .hbm, ⟨54, _⟩ => ⟨S2048x768x8, .f32⟩
  | .hbm, ⟨55, _⟩ => ⟨S_, .i32⟩
  | .hbm, ⟨56, _⟩ => ⟨S16, .i32⟩
  | .hbm, ⟨57, _⟩ => ⟨S16, .i1⟩
  | .hbm, ⟨58, _⟩ => ⟨S_, .i32⟩
  | .hbm, ⟨59, _⟩ => ⟨S16, .i32⟩
  | .hbm, ⟨60, _⟩ => ⟨S16, .i32⟩
  | .hbm, ⟨61, _⟩ => ⟨S16, .i32⟩
  | .hbm, ⟨62, _⟩ => ⟨S16x1, .i32⟩
  | .hbm, ⟨63, _⟩ => ⟨S16x768x8, .f32⟩
  | .hbm, ⟨64, _⟩ => ⟨S16x1x1, .i32⟩
  | .hbm, ⟨65, _⟩ => ⟨S_, .i32⟩
  | .hbm, ⟨66, _⟩ => ⟨S16x1x1, .i32⟩
  | .hbm, ⟨67, _⟩ => ⟨S16x1x1, .i1⟩
  | .hbm, ⟨68, _⟩ => ⟨S_, .i32⟩
  | .hbm, ⟨69, _⟩ => ⟨S16x1x1, .i32⟩
  | .hbm, ⟨70, _⟩ => ⟨S16x1x1, .i32⟩
  | .hbm, ⟨71, _⟩ => ⟨S16x1x1, .i32⟩
  | .hbm, ⟨72, _⟩ => ⟨S1, .i32⟩
  | .hbm, ⟨73, _⟩ => ⟨S_, .i32⟩
  | .hbm, ⟨74, _⟩ => ⟨S16x1x1, .i32⟩
  | .hbm, ⟨75, _⟩ => ⟨S16x1x1, .i1⟩
  | .hbm, ⟨76, _⟩ => ⟨S1x1x1, .i32⟩
  | .hbm, ⟨77, _⟩ => ⟨S16x1x1, .i32⟩
  | .hbm, ⟨78, _⟩ => ⟨S16x1x1, .i1⟩
  | .hbm, ⟨79, _⟩ => ⟨S16x1x1, .i1⟩
  | .hbm, ⟨80, _⟩ => ⟨S_, .i1⟩
  | .hbm, ⟨81, _⟩ => ⟨S16x1, .i1⟩
  | .hbm, ⟨82, _⟩ => ⟨S16x768x1, .f32⟩
  | .hbm, ⟨83, _⟩ => ⟨S16x768x1, .i1⟩
  | .hbm, ⟨84, _⟩ => ⟨S_, .f32⟩
  | .hbm, ⟨85, _⟩ => ⟨S16x768x1, .f32⟩
  | .hbm, ⟨86, _⟩ => ⟨S16x768x1, .f32⟩
  | .hbm, ⟨87, _⟩ => ⟨S16x768, .f32⟩
  | .hbm, ⟨88, _⟩ => ⟨S_, .f32⟩
  | .hbm, ⟨89, _⟩ => ⟨S16, .f32⟩
  | .hbm, ⟨90, _⟩ => ⟨S_, .f32⟩
  | .hbm, ⟨91, _⟩ => ⟨S16, .f32⟩
  | .hbm, ⟨92, _⟩ => ⟨S16, .f32⟩
  | .hbm, ⟨93, _⟩ => ⟨S16x1, .f32⟩
  | .hbm, ⟨94, _⟩ => ⟨S16x768, .f32⟩
  | .hbm, ⟨95, _⟩ => ⟨S16x768, .f32⟩
  | .hbm, ⟨96, _⟩ => ⟨S16x768, .f32⟩
  | .hbm, ⟨97, _⟩ => ⟨S_, .f32⟩
  | .hbm, ⟨98, _⟩ => ⟨S16, .f32⟩
  | .hbm, ⟨99, _⟩ => ⟨S16x1, .f32⟩
  | .hbm, ⟨100, _⟩ => ⟨S16x768, .f32⟩
  | .hbm, ⟨101, _⟩ => ⟨S16x768, .f32⟩
  | .hbm, ⟨102, _⟩ => ⟨S16x1, .i32⟩
  | .hbm, ⟨103, _⟩ => ⟨S8, .i32⟩
  | .hbm, ⟨104, _⟩ => ⟨S1x8, .i32⟩
  | .hbm, ⟨105, _⟩ => ⟨S16x8, .i32⟩
  | .hbm, ⟨106, _⟩ => ⟨S16x8, .i32⟩
  | .hbm, ⟨107, _⟩ => ⟨S16x8, .i1⟩
  | .hbm, ⟨108, _⟩ => ⟨S16x8, .f32⟩
  | .hbm, ⟨109, _⟩ => ⟨S16x768x1, .f32⟩
  | .hbm, ⟨110, _⟩ => ⟨S16x1x8, .f32⟩
  | .hbm, ⟨111, _⟩ => ⟨S16x768x8, .f32⟩
  | .hbm, ⟨112, _⟩ => ⟨S16x768x8, .f32⟩
  | .hbm, ⟨113, _⟩ => ⟨S16x768x8, .f32⟩
  | .hbm, ⟨114, _⟩ => ⟨S16x6144, .f32⟩
  | .hbm, ⟨115, _⟩ => ⟨S2048x768, .f32⟩
  | .hbm, ⟨116, _⟩ => ⟨S1x6144, .f32⟩
  | .hbm, ⟨117, _⟩ => ⟨S1x768, .f32⟩
  | .hbm, ⟨118, _⟩ => ⟨S2048x768, .f32⟩
  | .local _ .vmem, ⟨0, _⟩ => ⟨S2048x768, .f32⟩
  | .local _ .vmem, ⟨1, _⟩ => ⟨S16x768, .f32⟩
  | .local _ .vmem, ⟨2, _⟩ => ⟨S16x768, .f32⟩
  | .local _ .vmem, ⟨3, _⟩ => ⟨S1x768, .f32⟩
  | .local _ .vmem, ⟨4, _⟩ => ⟨S1x768, .f32⟩
  | .local _ .vmem, ⟨5, _⟩ => ⟨S1x768, .f32⟩
  | .local _ .vmem, ⟨6, _⟩ => ⟨S768x768, .f32⟩
  | .local _ .vmem, ⟨7, _⟩ => ⟨S768x768, .f32⟩
  | .local _ .vmem, ⟨8, _⟩ => ⟨S768x768, .f32⟩
  | .local _ .vmem, ⟨9, _⟩ => ⟨S768x768, .f32⟩
  | .local _ .vmem, ⟨10, _⟩ => ⟨S2048x768, .f32⟩
  | .local _ .vmem, ⟨11, _⟩ => ⟨S16x768, .f32⟩
  | .local _ .vmem, ⟨12, _⟩ => ⟨S16x768, .f32⟩
  | .local _ .smem, ⟨0, _⟩ => ⟨S16, .i32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_cst : Ref sig .tc := ⟨.hbm, 30, rfl⟩
abbrev main_call0_c : Ref sig .tc := ⟨.hbm, 31, rfl⟩
abbrev main_call0_v1_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v23 : Ref sig .tc := ⟨.hbm, 41, rfl⟩
abbrev main_call2_v0 : Ref sig .tc := ⟨.hbm, 42, rfl⟩
abbrev main_call2_cst : Ref sig .tc := ⟨.hbm, 43, rfl⟩
abbrev main_call2_c : Ref sig .tc := ⟨.hbm, 44, rfl⟩
abbrev main_call2_v1_0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c : Ref sig .tc := ⟨.hbm, 55, rfl⟩
abbrev main_v33 : Ref sig .tc := ⟨.hbm, 56, rfl⟩
abbrev main_v34 : Ref sig .tc := ⟨.hbm, 57, rfl⟩
abbrev main_c_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_c_1 : Ref sig .tc := ⟨.hbm, 72, rfl⟩
abbrev main_call3_c_2 : Ref sig .tc := ⟨.hbm, 73, rfl⟩
abbrev main_call3_v5 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_c_3 : Ref sig .tc := ⟨.hbm, 80, rfl⟩
abbrev main_call3_v11 : Ref sig .tc := ⟨.hbm, 81, rfl⟩
abbrev main_call3_v12 : Ref sig .tc := ⟨.hbm, 82, rfl⟩
abbrev main_call3_v13 : Ref sig .tc := ⟨.hbm, 83, rfl⟩
abbrev main_call3_cst : Ref sig .tc := ⟨.hbm, 84, rfl⟩
abbrev main_call3_v14 : Ref sig .tc := ⟨.hbm, 85, rfl⟩
abbrev main_v41 : Ref sig .tc := ⟨.hbm, 86, rfl⟩
abbrev main_v42 : Ref sig .tc := ⟨.hbm, 87, rfl⟩
abbrev main_cst_6 : Ref sig .tc := ⟨.hbm, 88, rfl⟩
abbrev main_v43 : Ref sig .tc := ⟨.hbm, 89, rfl⟩
abbrev main_cst_7 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_8 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v34 : BitVec 32) : Fin 2 → Nat :=
  let v35 : Index := Scalar.indexCast v34
  let c0_25 : Index := 0#32
  ![v35.toNat, 0]

def k0_chk1 (i : grid0.Coords) (v34 : BitVec 32) : Prop :=
  (∀ (k0_h1 : k0_cond1 i = 1#1), ∀ a, (k0_off1 v34) a + S1x768.size a ≤ S2048x768.size a)
theorem k0_off1_inb : ∀ (i : grid0.Coords) (v34 : BitVec 32) (k0_hw1 : k0_chk1 i v34), ∀ (k0_h1 : k0_cond1 i = 1#1), ∀ a, (k0_off1 v34) a + S1x768.size a ≤ S2048x768.size a := fun i v34 k0_hw1 k0_h1 => k0_hw1 k0_h1

def k0_off2 (v41 : BitVec 32) : Fin 2 → Nat :=
  let v42 : Index := Scalar.indexCast v41
  let c0_28 : Index := 0#32
  ![v42.toNat, 0]

def k0_chk2 (i : grid0.Coords) (v41 : BitVec 32) : Prop :=
  (∀ (k0_h1 : k0_cond1 i = 1#1), ∀ a, (k0_off2 v41) a + S1x768.size a ≤ S2048x768.size a)
theorem k0_off2_inb : ∀ (i : grid0.Coords) (v41 : BitVec 32) (k0_hw2 : k0_chk2 i v41), ∀ (k0_h1 : k0_cond1 i = 1#1), ∀ a, (k0_off2 v41) a + S1x768.size a ≤ S2048x768.size a := fun i v41 k0_hw2 k0_h1 => k0_hw2 k0_h1

def k0_off3 (v48 : BitVec 32) : Fin 2 → Nat :=
  let v49 : Index := Scalar.indexCast v48
  let c0_31 : Index := 0#32
  ![v49.toNat, 0]

def k0_chk3 (i : grid0.Coords) (v48 : BitVec 32) : Prop :=
  (∀ (k0_h1 : k0_cond1 i = 1#1), ∀ a, (k0_off3 v48) a + S1x768.size a ≤ S2048x768.size a)
theorem k0_off3_inb : ∀ (i : grid0.Coords) (v48 : BitVec 32) (k0_hw3 : k0_chk3 i v48), ∀ (k0_h1 : k0_cond1 i = 1#1), ∀ a, (k0_off3 v48) a + S1x768.size a ≤ S2048x768.size a := fun i v48 k0_hw3 k0_h1 => k0_hw3 k0_h1

def k0_off4 (v55 : BitVec 32) : Fin 2 → Nat :=
  let v56 : Index := Scalar.indexCast v55
  let c0_34 : Index := 0#32
  ![v56.toNat, 0]

def k0_chk4 (i : grid0.Coords) (v55 : BitVec 32) : Prop :=
  (∀ (k0_h1 : k0_cond1 i = 1#1), ∀ a, (k0_off4 v55) a + S1x768.size a ≤ S2048x768.size a)
theorem k0_off4_inb : ∀ (i : grid0.Coords) (v55 : BitVec 32) (k0_hw4 : k0_chk4 i v55), ∀ (k0_h1 : k0_cond1 i = 1#1), ∀ a, (k0_off4 v55) a + S1x768.size a ≤ S2048x768.size a := fun i v55 k0_hw4 k0_h1 => k0_hw4 k0_h1

def k0_off5 (v62 : BitVec 32) : Fin 2 → Nat :=
  let v63 : Index := Scalar.indexCast v62
  let c0_37 : Index := 0#32
  ![v63.toNat, 0]

def k0_chk5 (i : grid0.Coords) (v62 : BitVec 32) : Prop :=
  (∀ (k0_h1 : k0_cond1 i = 1#1), ∀ a, (k0_off5 v62) a + S1x768.size a ≤ S2048x768.size a)
theorem k0_off5_inb : ∀ (i : grid0.Coords) (v62 : BitVec 32) (k0_hw5 : k0_chk5 i v62), ∀ (k0_h1 : k0_cond1 i = 1#1), ∀ a, (k0_off5 v62) a + S1x768.size a ≤ S2048x768.size a := fun i v62 k0_hw5 k0_h1 => k0_hw5 k0_h1

def k0_off6 (v69 : BitVec 32) : Fin 2 → Nat :=
  let v70 : Index := Scalar.indexCast v69
  let c0_40 : Index := 0#32
  ![v70.toNat, 0]

def k0_chk6 (i : grid0.Coords) (v69 : BitVec 32) : Prop :=
  (∀ (k0_h1 : k0_cond1 i = 1#1), ∀ a, (k0_off6 v69) a + S1x768.size a ≤ S2048x768.size a)
theorem k0_off6_inb : ∀ (i : grid0.Coords) (v69 : BitVec 32) (k0_hw6 : k0_chk6 i v69), ∀ (k0_h1 : k0_cond1 i = 1#1), ∀ a, (k0_off6 v69) a + S1x768.size a ≤ S2048x768.size a := fun i v69 k0_hw6 k0_h1 => k0_hw6 k0_h1

def k0_off7 (v76 : BitVec 32) : Fin 2 → Nat :=
  let v77 : Index := Scalar.indexCast v76
  let c0_43 : Index := 0#32
  ![v77.toNat, 0]

def k0_chk7 (i : grid0.Coords) (v76 : BitVec 32) : Prop :=
  (∀ (k0_h1 : k0_cond1 i = 1#1), ∀ a, (k0_off7 v76) a + S1x768.size a ≤ S2048x768.size a)
theorem k0_off7_inb : ∀ (i : grid0.Coords) (v76 : BitVec 32) (k0_hw7 : k0_chk7 i v76), ∀ (k0_h1 : k0_cond1 i = 1#1), ∀ a, (k0_off7 v76) a + S1x768.size a ≤ S2048x768.size a := fun i v76 k0_hw7 k0_h1 => k0_hw7 k0_h1

def k0_off8 (v83 : BitVec 32) : Fin 2 → Nat :=
  let v84 : Index := Scalar.indexCast v83
  let c0_46 : Index := 0#32
  ![v84.toNat, 0]

def k0_chk8 (i : grid0.Coords) (v83 : BitVec 32) : Prop :=
  (∀ (k0_h1 : k0_cond1 i = 1#1), ∀ a, (k0_off8 v83) a + S1x768.size a ≤ S2048x768.size a)
theorem k0_off8_inb : ∀ (i : grid0.Coords) (v83 : BitVec 32) (k0_hw8 : k0_chk8 i v83), ∀ (k0_h1 : k0_cond1 i = 1#1), ∀ a, (k0_off8 v83) a + S1x768.size a ≤ S2048x768.size a := fun i v83 k0_hw8 k0_h1 => k0_hw8 k0_h1

def k0_off9 (v90 : BitVec 32) : Fin 2 → Nat :=
  let v91 : Index := Scalar.indexCast v90
  let c0_49 : Index := 0#32
  ![v91.toNat, 0]

def k0_chk9 (i : grid0.Coords) (v90 : BitVec 32) : Prop :=
  (∀ (k0_h1 : k0_cond1 i = 1#1), ∀ a, (k0_off9 v90) a + S1x768.size a ≤ S2048x768.size a)
theorem k0_off9_inb : ∀ (i : grid0.Coords) (v90 : BitVec 32) (k0_hw9 : k0_chk9 i v90), ∀ (k0_h1 : k0_cond1 i = 1#1), ∀ a, (k0_off9 v90) a + S1x768.size a ≤ S2048x768.size a := fun i v90 k0_hw9 k0_h1 => k0_hw9 k0_h1

def k0_off10 (v97 : BitVec 32) : Fin 2 → Nat :=
  let v98 : Index := Scalar.indexCast v97
  let c0_52 : Index := 0#32
  ![v98.toNat, 0]

def k0_chk10 (i : grid0.Coords) (v97 : BitVec 32) : Prop :=
  (∀ (k0_h1 : k0_cond1 i = 1#1), ∀ a, (k0_off10 v97) a + S1x768.size a ≤ S2048x768.size a)
theorem k0_off10_inb : ∀ (i : grid0.Coords) (v97 : BitVec 32) (k0_hw10 : k0_chk10 i v97), ∀ (k0_h1 : k0_cond1 i = 1#1), ∀ a, (k0_off10 v97) a + S1x768.size a ≤ S2048x768.size a := fun i v97 k0_hw10 k0_h1 => k0_hw10 k0_h1

def k0_off11 (v104 : BitVec 32) : Fin 2 → Nat :=
  let v105 : Index := Scalar.indexCast v104
  let c0_55 : Index := 0#32
  ![v105.toNat, 0]

def k0_chk11 (i : grid0.Coords) (v104 : BitVec 32) : Prop :=
  (∀ (k0_h1 : k0_cond1 i = 1#1), ∀ a, (k0_off11 v104) a + S1x768.size a ≤ S2048x768.size a)
theorem k0_off11_inb : ∀ (i : grid0.Coords) (v104 : BitVec 32) (k0_hw11 : k0_chk11 i v104), ∀ (k0_h1 : k0_cond1 i = 1#1), ∀ a, (k0_off11 v104) a + S1x768.size a ≤ S2048x768.size a := fun i v104 k0_hw11 k0_h1 => k0_hw11 k0_h1

def k0_off12 (v111 : BitVec 32) : Fin 2 → Nat :=
  let v112 : Index := Scalar.indexCast v111
  let c0_58 : Index := 0#32
  ![v112.toNat, 0]

def k0_chk12 (i : grid0.Coords) (v111 : BitVec 32) : Prop :=
  (∀ (k0_h1 : k0_cond1 i = 1#1), ∀ a, (k0_off12 v111) a + S1x768.size a ≤ S2048x768.size a)
theorem k0_off12_inb : ∀ (i : grid0.Coords) (v111 : BitVec 32) (k0_hw12 : k0_chk12 i v111), ∀ (k0_h1 : k0_cond1 i = 1#1), ∀ a, (k0_off12 v111) a + S1x768.size a ≤ S2048x768.size a := fun i v111 k0_hw12 k0_h1 => k0_hw12 k0_h1

def k0_off13 (v118 : BitVec 32) : Fin 2 → Nat :=
  let v119 : Index := Scalar.indexCast v118
  let c0_61 : Index := 0#32
  ![v119.toNat, 0]

def k0_chk13 (i : grid0.Coords) (v118 : BitVec 32) : Prop :=
  (∀ (k0_h1 : k0_cond1 i = 1#1), ∀ a, (k0_off13 v118) a + S1x768.size a ≤ S2048x768.size a)
theorem k0_off13_inb : ∀ (i : grid0.Coords) (v118 : BitVec 32) (k0_hw13 : k0_chk13 i v118), ∀ (k0_h1 : k0_cond1 i = 1#1), ∀ a, (k0_off13 v118) a + S1x768.size a ≤ S2048x768.size a := fun i v118 k0_hw13 k0_h1 => k0_hw13 k0_h1

def k0_off14 (v125 : BitVec 32) : Fin 2 → Nat :=
  let v126 : Index := Scalar.indexCast v125
  let c0_64 : Index := 0#32
  ![v126.toNat, 0]

def k0_chk14 (i : grid0.Coords) (v125 : BitVec 32) : Prop :=
  (∀ (k0_h1 : k0_cond1 i = 1#1), ∀ a, (k0_off14 v125) a + S1x768.size a ≤ S2048x768.size a)
theorem k0_off14_inb : ∀ (i : grid0.Coords) (v125 : BitVec 32) (k0_hw14 : k0_chk14 i v125), ∀ (k0_h1 : k0_cond1 i = 1#1), ∀ a, (k0_off14 v125) a + S1x768.size a ≤ S2048x768.size a := fun i v125 k0_hw14 k0_h1 => k0_hw14 k0_h1

def k0_off15 (v132 : BitVec 32) : Fin 2 → Nat :=
  let v133 : Index := Scalar.indexCast v132
  let c0_67 : Index := 0#32
  ![v133.toNat, 0]

def k0_chk15 (i : grid0.Coords) (v132 : BitVec 32) : Prop :=
  (∀ (k0_h1 : k0_cond1 i = 1#1), ∀ a, (k0_off15 v132) a + S1x768.size a ≤ S2048x768.size a)
theorem k0_off15_inb : ∀ (i : grid0.Coords) (v132 : BitVec 32) (k0_hw15 : k0_chk15 i v132), ∀ (k0_h1 : k0_cond1 i = 1#1), ∀ a, (k0_off15 v132) a + S1x768.size a ≤ S2048x768.size a := fun i v132 k0_hw15 k0_h1 => k0_hw15 k0_h1

def k0_off16 (v139 : BitVec 32) : Fin 2 → Nat :=
  let v140 : Index := Scalar.indexCast v139
  let c0_70 : Index := 0#32
  ![v140.toNat, 0]

def k0_chk16 (i : grid0.Coords) (v139 : BitVec 32) : Prop :=
  (∀ (k0_h1 : k0_cond1 i = 1#1), ∀ a, (k0_off16 v139) a + S1x768.size a ≤ S2048x768.size a)
theorem k0_off16_inb : ∀ (i : grid0.Coords) (v139 : BitVec 32) (k0_hw16 : k0_chk16 i v139), ∀ (k0_h1 : k0_cond1 i = 1#1), ∀ a, (k0_off16 v139) a + S1x768.size a ≤ S2048x768.size a := fun i v139 k0_hw16 k0_h1 => k0_hw16 k0_h1

def k0_cond2 (i : grid0.Coords) : BitVec 1 :=
  let arg0 : BitVec 32 := BitVec.ofNat 32 (i 0).val
  let c7_i32 : BitVec 32 := 7#32
  let v22 : BitVec 1 := Scalar.cmpi .eq arg0 c7_i32
  let v23 : BitVec 32 := Scalar.extui v22
  let c0_i32_16 : BitVec 32 := 0#32
  let v24 : BitVec 1 := Scalar.cmpi .ne v23 c0_i32_16
  v24

def k0_off17 (v26 : BitVec 32) : Fin 2 → Nat :=
  let v27 : Index := Scalar.indexCast v26
  let c0_20 : Index := 0#32
  ![v27.toNat, 0]

def k0_chk17 (i : grid0.Coords) (v26 : BitVec 32) : Prop :=
  (∀ (k0_h2 : k0_cond2 i = 1#1), ∀ a, (k0_off17 v26) a + S1x768.size a ≤ S2048x768.size a)
theorem k0_off17_inb : ∀ (i : grid0.Coords) (v26 : BitVec 32) (k0_hw17 : k0_chk17 i v26), ∀ (k0_h2 : k0_cond2 i = 1#1), ∀ a, (k0_off17 v26) a + S1x768.size a ≤ S2048x768.size a := fun i v26 k0_hw17 k0_h2 => k0_hw17 k0_h2

def k0_off18 (v34 : BitVec 32) : Fin 2 → Nat :=
  let v35 : Index := Scalar.indexCast v34
  let c0_22 : Index := 0#32
  ![v35.toNat, 0]

def k0_chk18 (i : grid0.Coords) (v34 : BitVec 32) : Prop :=
  (∀ (k0_h2 : k0_cond2 i = 1#1), ∀ a, (k0_off18 v34) a + S1x768.size a ≤ S2048x768.size a)
theorem k0_off18_inb : ∀ (i : grid0.Coords) (v34 : BitVec 32) (k0_hw18 : k0_chk18 i v34), ∀ (k0_h2 : k0_cond2 i = 1#1), ∀ a, (k0_off18 v34) a + S1x768.size a ≤ S2048x768.size a := fun i v34 k0_hw18 k0_h2 => k0_hw18 k0_h2

def k0_off19 (v42 : BitVec 32) : Fin 2 → Nat :=
  let v43 : Index := Scalar.indexCast v42
  let c0_24 : Index := 0#32
  ![v43.toNat, 0]

def k0_chk19 (i : grid0.Coords) (v42 : BitVec 32) : Prop :=
  (∀ (k0_h2 : k0_cond2 i = 1#1), ∀ a, (k0_off19 v42) a + S1x768.size a ≤ S2048x768.size a)
theorem k0_off19_inb : ∀ (i : grid0.Coords) (v42 : BitVec 32) (k0_hw19 : k0_chk19 i v42), ∀ (k0_h2 : k0_cond2 i = 1#1), ∀ a, (k0_off19 v42) a + S1x768.size a ≤ S2048x768.size a := fun i v42 k0_hw19 k0_h2 => k0_hw19 k0_h2

def k0_off20 (v50 : BitVec 32) : Fin 2 → Nat :=
  let v51 : Index := Scalar.indexCast v50
  let c0_26 : Index := 0#32
  ![v51.toNat, 0]

def k0_chk20 (i : grid0.Coords) (v50 : BitVec 32) : Prop :=
  (∀ (k0_h2 : k0_cond2 i = 1#1), ∀ a, (k0_off20 v50) a + S1x768.size a ≤ S2048x768.size a)
theorem k0_off20_inb : ∀ (i : grid0.Coords) (v50 : BitVec 32) (k0_hw20 : k0_chk20 i v50), ∀ (k0_h2 : k0_cond2 i = 1#1), ∀ a, (k0_off20 v50) a + S1x768.size a ≤ S2048x768.size a := fun i v50 k0_hw20 k0_h2 => k0_hw20 k0_h2

def k0_off21 (v58 : BitVec 32) : Fin 2 → Nat :=
  let v59 : Index := Scalar.indexCast v58
  let c0_28 : Index := 0#32
  ![v59.toNat, 0]

def k0_chk21 (i : grid0.Coords) (v58 : BitVec 32) : Prop :=
  (∀ (k0_h2 : k0_cond2 i = 1#1), ∀ a, (k0_off21 v58) a + S1x768.size a ≤ S2048x768.size a)
theorem k0_off21_inb : ∀ (i : grid0.Coords) (v58 : BitVec 32) (k0_hw21 : k0_chk21 i v58), ∀ (k0_h2 : k0_cond2 i = 1#1), ∀ a, (k0_off21 v58) a + S1x768.size a ≤ S2048x768.size a := fun i v58 k0_hw21 k0_h2 => k0_hw21 k0_h2

def k0_off22 (v66 : BitVec 32) : Fin 2 → Nat :=
  let v67 : Index := Scalar.indexCast v66
  let c0_30 : Index := 0#32
  ![v67.toNat, 0]

def k0_chk22 (i : grid0.Coords) (v66 : BitVec 32) : Prop :=
  (∀ (k0_h2 : k0_cond2 i = 1#1), ∀ a, (k0_off22 v66) a + S1x768.size a ≤ S2048x768.size a)
theorem k0_off22_inb : ∀ (i : grid0.Coords) (v66 : BitVec 32) (k0_hw22 : k0_chk22 i v66), ∀ (k0_h2 : k0_cond2 i = 1#1), ∀ a, (k0_off22 v66) a + S1x768.size a ≤ S2048x768.size a := fun i v66 k0_hw22 k0_h2 => k0_hw22 k0_h2

def k0_off23 (v74 : BitVec 32) : Fin 2 → Nat :=
  let v75 : Index := Scalar.indexCast v74
  let c0_32 : Index := 0#32
  ![v75.toNat, 0]

def k0_chk23 (i : grid0.Coords) (v74 : BitVec 32) : Prop :=
  (∀ (k0_h2 : k0_cond2 i = 1#1), ∀ a, (k0_off23 v74) a + S1x768.size a ≤ S2048x768.size a)
theorem k0_off23_inb : ∀ (i : grid0.Coords) (v74 : BitVec 32) (k0_hw23 : k0_chk23 i v74), ∀ (k0_h2 : k0_cond2 i = 1#1), ∀ a, (k0_off23 v74) a + S1x768.size a ≤ S2048x768.size a := fun i v74 k0_hw23 k0_h2 => k0_hw23 k0_h2

def k0_off24 (v82 : BitVec 32) : Fin 2 → Nat :=
  let v83 : Index := Scalar.indexCast v82
  let c0_34 : Index := 0#32
  ![v83.toNat, 0]

def k0_chk24 (i : grid0.Coords) (v82 : BitVec 32) : Prop :=
  (∀ (k0_h2 : k0_cond2 i = 1#1), ∀ a, (k0_off24 v82) a + S1x768.size a ≤ S2048x768.size a)
theorem k0_off24_inb : ∀ (i : grid0.Coords) (v82 : BitVec 32) (k0_hw24 : k0_chk24 i v82), ∀ (k0_h2 : k0_cond2 i = 1#1), ∀ a, (k0_off24 v82) a + S1x768.size a ≤ S2048x768.size a := fun i v82 k0_hw24 k0_h2 => k0_hw24 k0_h2

def k0_off25 (v90 : BitVec 32) : Fin 2 → Nat :=
  let v91 : Index := Scalar.indexCast v90
  let c0_36 : Index := 0#32
  ![v91.toNat, 0]

def k0_chk25 (i : grid0.Coords) (v90 : BitVec 32) : Prop :=
  (∀ (k0_h2 : k0_cond2 i = 1#1), ∀ a, (k0_off25 v90) a + S1x768.size a ≤ S2048x768.size a)
theorem k0_off25_inb : ∀ (i : grid0.Coords) (v90 : BitVec 32) (k0_hw25 : k0_chk25 i v90), ∀ (k0_h2 : k0_cond2 i = 1#1), ∀ a, (k0_off25 v90) a + S1x768.size a ≤ S2048x768.size a := fun i v90 k0_hw25 k0_h2 => k0_hw25 k0_h2

def k0_off26 (v98 : BitVec 32) : Fin 2 → Nat :=
  let v99 : Index := Scalar.indexCast v98
  let c0_38 : Index := 0#32
  ![v99.toNat, 0]

def k0_chk26 (i : grid0.Coords) (v98 : BitVec 32) : Prop :=
  (∀ (k0_h2 : k0_cond2 i = 1#1), ∀ a, (k0_off26 v98) a + S1x768.size a ≤ S2048x768.size a)
theorem k0_off26_inb : ∀ (i : grid0.Coords) (v98 : BitVec 32) (k0_hw26 : k0_chk26 i v98), ∀ (k0_h2 : k0_cond2 i = 1#1), ∀ a, (k0_off26 v98) a + S1x768.size a ≤ S2048x768.size a := fun i v98 k0_hw26 k0_h2 => k0_hw26 k0_h2

def k0_off27 (v106 : BitVec 32) : Fin 2 → Nat :=
  let v107 : Index := Scalar.indexCast v106
  let c0_40 : Index := 0#32
  ![v107.toNat, 0]

def k0_chk27 (i : grid0.Coords) (v106 : BitVec 32) : Prop :=
  (∀ (k0_h2 : k0_cond2 i = 1#1), ∀ a, (k0_off27 v106) a + S1x768.size a ≤ S2048x768.size a)
theorem k0_off27_inb : ∀ (i : grid0.Coords) (v106 : BitVec 32) (k0_hw27 : k0_chk27 i v106), ∀ (k0_h2 : k0_cond2 i = 1#1), ∀ a, (k0_off27 v106) a + S1x768.size a ≤ S2048x768.size a := fun i v106 k0_hw27 k0_h2 => k0_hw27 k0_h2

def k0_off28 (v114 : BitVec 32) : Fin 2 → Nat :=
  let v115 : Index := Scalar.indexCast v114
  let c0_42 : Index := 0#32
  ![v115.toNat, 0]

def k0_chk28 (i : grid0.Coords) (v114 : BitVec 32) : Prop :=
  (∀ (k0_h2 : k0_cond2 i = 1#1), ∀ a, (k0_off28 v114) a + S1x768.size a ≤ S2048x768.size a)
theorem k0_off28_inb : ∀ (i : grid0.Coords) (v114 : BitVec 32) (k0_hw28 : k0_chk28 i v114), ∀ (k0_h2 : k0_cond2 i = 1#1), ∀ a, (k0_off28 v114) a + S1x768.size a ≤ S2048x768.size a := fun i v114 k0_hw28 k0_h2 => k0_hw28 k0_h2

def k0_off29 (v122 : BitVec 32) : Fin 2 → Nat :=
  let v123 : Index := Scalar.indexCast v122
  let c0_44 : Index := 0#32
  ![v123.toNat, 0]

def k0_chk29 (i : grid0.Coords) (v122 : BitVec 32) : Prop :=
  (∀ (k0_h2 : k0_cond2 i = 1#1), ∀ a, (k0_off29 v122) a + S1x768.size a ≤ S2048x768.size a)
theorem k0_off29_inb : ∀ (i : grid0.Coords) (v122 : BitVec 32) (k0_hw29 : k0_chk29 i v122), ∀ (k0_h2 : k0_cond2 i = 1#1), ∀ a, (k0_off29 v122) a + S1x768.size a ≤ S2048x768.size a := fun i v122 k0_hw29 k0_h2 => k0_hw29 k0_h2

def k0_off30 (v130 : BitVec 32) : Fin 2 → Nat :=
  let v131 : Index := Scalar.indexCast v130
  let c0_46 : Index := 0#32
  ![v131.toNat, 0]

def k0_chk30 (i : grid0.Coords) (v130 : BitVec 32) : Prop :=
  (∀ (k0_h2 : k0_cond2 i = 1#1), ∀ a, (k0_off30 v130) a + S1x768.size a ≤ S2048x768.size a)
theorem k0_off30_inb : ∀ (i : grid0.Coords) (v130 : BitVec 32) (k0_hw30 : k0_chk30 i v130), ∀ (k0_h2 : k0_cond2 i = 1#1), ∀ a, (k0_off30 v130) a + S1x768.size a ≤ S2048x768.size a := fun i v130 k0_hw30 k0_h2 => k0_hw30 k0_h2

def k0_off31 (v138 : BitVec 32) : Fin 2 → Nat :=
  let v139 : Index := Scalar.indexCast v138
  let c0_48 : Index := 0#32
  ![v139.toNat, 0]

def k0_chk31 (i : grid0.Coords) (v138 : BitVec 32) : Prop :=
  (∀ (k0_h2 : k0_cond2 i = 1#1), ∀ a, (k0_off31 v138) a + S1x768.size a ≤ S2048x768.size a)
theorem k0_off31_inb : ∀ (i : grid0.Coords) (v138 : BitVec 32) (k0_hw31 : k0_chk31 i v138), ∀ (k0_h2 : k0_cond2 i = 1#1), ∀ a, (k0_off31 v138) a + S1x768.size a ≤ S2048x768.size a := fun i v138 k0_hw31 k0_h2 => k0_hw31 k0_h2

def k0_off32 (v146 : BitVec 32) : Fin 2 → Nat :=
  let v147 : Index := Scalar.indexCast v146
  let c0_50 : Index := 0#32
  ![v147.toNat, 0]

def k0_chk32 (i : grid0.Coords) (v146 : BitVec 32) : Prop :=
  (∀ (k0_h2 : k0_cond2 i = 1#1), ∀ a, (k0_off32 v146) a + S1x768.size a ≤ S2048x768.size a)
theorem k0_off32_inb : ∀ (i : grid0.Coords) (v146 : BitVec 32) (k0_hw32 : k0_chk32 i v146), ∀ (k0_h2 : k0_cond2 i = 1#1), ∀ a, (k0_off32 v146) a + S1x768.size a ≤ S2048x768.size a := fun i v146 k0_hw32 k0_h2 => k0_hw32 k0_h2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x2048x768 : Shape := ⟨3, ![1, 2048, 768]⟩
abbrev S2048x16384 : Shape := ⟨2, ![2048, 16384]⟩
abbrev S768x6144 : Shape := ⟨2, ![768, 6144]⟩
abbrev S6144 : Shape := ⟨1, ![6144]⟩
abbrev S6144x768 : Shape := ⟨2, ![6144, 768]⟩
abbrev S768 : Shape := ⟨1, ![768]⟩
abbrev S2048x2048x8 : Shape := ⟨3, ![2048, 2048, 8]⟩
abbrev S2048x8x1x768 : Shape := ⟨4, ![2048, 8, 1, 768]⟩
abbrev S1x2048x768x8 : Shape := ⟨4, ![1, 2048, 768, 8]⟩
abbrev S_ : Shape := ⟨0, ![]⟩
abbrev S1x2048x8 : Shape := ⟨3, ![1, 2048, 8]⟩
abbrev S1x2048x1x8 : Shape := ⟨4, ![1, 2048, 1, 8]⟩
abbrev S1x8x2048 : Shape := ⟨3, ![1, 8, 2048]⟩
abbrev S1x8x2 : Shape := ⟨3, ![1, 8, 2]⟩
abbrev S1 : Shape := ⟨1, ![1]⟩
abbrev S1x1x1 : Shape := ⟨3, ![1, 1, 1]⟩
abbrev S8 : Shape := ⟨1, ![8]⟩
abbrev S1x8x1 : Shape := ⟨3, ![1, 8, 1]⟩
abbrev S1x8x2x1 : Shape := ⟨4, ![1, 8, 2, 1]⟩
abbrev S1x8x2x3 : Shape := ⟨4, ![1, 8, 2, 3]⟩
abbrev S1x2048x6144 : Shape := ⟨3, ![1, 2048, 6144]⟩
abbrev S1x1x6144 : Shape := ⟨3, ![1, 1, 6144]⟩
abbrev S1x1x768 : Shape := ⟨3, ![1, 1, 768]⟩
abbrev S2048x768 : Shape := ⟨2, ![2048, 768]⟩

abbrev nBuf : Space → Nat
  | .hbm => 86
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S2048x16384, .f32⟩
  | .hbm, ⟨2, _⟩ => ⟨S768x6144, .f32⟩
  | .hbm, ⟨3, _⟩ => ⟨S6144, .f32⟩
  | .hbm, ⟨4, _⟩ => ⟨S6144x768, .f32⟩
  | .hbm, ⟨5, _⟩ => ⟨S768, .f32⟩
  | .hbm, ⟨6, _⟩ => ⟨S2048x2048x8, .f32⟩
  | .hbm, ⟨7, _⟩ => ⟨S2048x8x1x768, .f32⟩
  | .hbm, ⟨8, _⟩ => ⟨S1x2048x768x8, .f32⟩
  | .hbm, ⟨9, _⟩ => ⟨S_, .f32⟩
  | .hbm, ⟨10, _⟩ => ⟨S1x2048x8, .f32⟩
  | .hbm, ⟨11, _⟩ => ⟨S_, .f32⟩
  | .hbm, ⟨12, _⟩ => ⟨S1x2048x8, .f32⟩
  | .hbm, ⟨13, _⟩ => ⟨S1x2048x8, .f32⟩
  | .hbm, ⟨14, _⟩ => ⟨S1x2048x1x8, .f32⟩
  | .hbm, ⟨15, _⟩ => ⟨S1x2048x768x8, .f32⟩
  | .hbm, ⟨16, _⟩ => ⟨S1x2048x768x8, .f32⟩
  | .hbm, ⟨17, _⟩ => ⟨S1x2048x768x8, .f32⟩
  | .hbm, ⟨18, _⟩ => ⟨S_, .f32⟩
  | .hbm, ⟨19, _⟩ => ⟨S1x2048x8, .f32⟩
  | .hbm, ⟨20, _⟩ => ⟨S1x2048x1x8, .f32⟩
  | .hbm, ⟨21, _⟩ => ⟨S1x2048x768x8, .f32⟩
  | .hbm, ⟨22, _⟩ => ⟨S1x2048x768x8, .f32⟩
  | .hbm, ⟨23, _⟩ => ⟨S_, .f32⟩
  | .hbm, ⟨24, _⟩ => ⟨S1x2048x8, .f32⟩
  | .hbm, ⟨25, _⟩ => ⟨S_, .f32⟩
  | .hbm, ⟨26, _⟩ => ⟨S1x2048x8, .f32⟩
  | .hbm, ⟨27, _⟩ => ⟨S1x2048x8, .f32⟩
  | .hbm, ⟨28, _⟩ => ⟨S1x8x2048, .f32⟩
  | .hbm, ⟨29, _⟩ => ⟨S1x8x2, .f32⟩
  | .hbm, ⟨30, _⟩ => ⟨S1x8x2, .i32⟩
  | .hbm, ⟨31, _⟩ => ⟨S1, .i32⟩
  | .hbm, ⟨32, _⟩ => ⟨S1x1x1, .i32⟩
  | .hbm, ⟨33, _⟩ => ⟨S8, .i32⟩
  | .hbm, ⟨34, _⟩ => ⟨S1x8x1, .i32⟩
  | .hbm, ⟨35, _⟩ => ⟨S_, .f32⟩
  | .hbm, ⟨36, _⟩ => ⟨S1x8x2048, .f32⟩
  | .hbm, ⟨37, _⟩ => ⟨S_, .i32⟩
  | .hbm, ⟨38, _⟩ => ⟨S1x1x1, .i32⟩
  | .hbm, ⟨39, _⟩ => ⟨S1x1x1, .i1⟩
  | .hbm, ⟨40, _⟩ => ⟨S_, .i32⟩
  | .hbm, ⟨41, _⟩ => ⟨S1x1x1, .i32⟩
  | .hbm, ⟨42, _⟩ => ⟨S1x1x1, .i32⟩
  | .hbm, ⟨43, _⟩ => ⟨S1x1x1, .i32⟩
  | .hbm, ⟨44, _⟩ => ⟨S_, .i32⟩
  | .hbm, ⟨45, _⟩ => ⟨S1x8x1, .i32⟩
  | .hbm, ⟨46, _⟩ => ⟨S1x8x1, .i1⟩
  | .hbm, ⟨47, _⟩ => ⟨S_, .i32⟩
  | .hbm, ⟨48, _⟩ => ⟨S1x8x1, .i32⟩
  | .hbm, ⟨49, _⟩ => ⟨S1x8x1, .i32⟩
  | .hbm, ⟨50, _⟩ => ⟨S1x8x1, .i32⟩
  | .hbm, ⟨51, _⟩ => ⟨S_, .i32⟩
  | .hbm, ⟨52, _⟩ => ⟨S1x8x2, .i32⟩
  | .hbm, ⟨53, _⟩ => ⟨S1x8x2, .i1⟩
  | .hbm, ⟨54, _⟩ => ⟨S_, .i32⟩
  | .hbm, ⟨55, _⟩ => ⟨S1x8x2, .i32⟩
  | .hbm, ⟨56, _⟩ => ⟨S1x8x2, .i32⟩
  | .hbm, ⟨57, _⟩ => ⟨S1x8x2, .i32⟩
  | .hbm, ⟨58, _⟩ => ⟨S1x8x2, .i32⟩
  | .hbm, ⟨59, _⟩ => ⟨S1x8x2, .i32⟩
  | .hbm, ⟨60, _⟩ => ⟨S1x8x2x1, .i32⟩
  | .hbm, ⟨61, _⟩ => ⟨S1x8x2x1, .i32⟩
  | .hbm, ⟨62, _⟩ => ⟨S1x8x2x1, .i32⟩
  | .hbm, ⟨63, _⟩ => ⟨S1x8x2x3, .i32⟩
  | .hbm, ⟨64, _⟩ => ⟨S_, .f32⟩
  | .hbm, ⟨65, _⟩ => ⟨S1x8x2, .f32⟩
  | .hbm, ⟨66, _⟩ => ⟨S1x8x2048, .f32⟩
  | .hbm, ⟨67, _⟩ => ⟨S1x2048x8, .f32⟩
  | .hbm, ⟨68, _⟩ => ⟨S1x2048x6144, .f32⟩
  | .hbm, ⟨69, _⟩ => ⟨S1x1x6144, .f32⟩
  | .hbm, ⟨70, _⟩ => ⟨S1x2048x6144, .f32⟩
  | .hbm, ⟨71, _⟩ => ⟨S1x2048x6144, .f32⟩
  | .hbm, ⟨72, _⟩ => ⟨S1x2048x768x8, .f32⟩
  | .hbm, ⟨73, _⟩ => ⟨S_, .f32⟩
  | .hbm, ⟨74, _⟩ => ⟨S1x2048x768x8, .f32⟩
  | .hbm, ⟨75, _⟩ => ⟨S1x2048x768x8, .f32⟩
  | .hbm, ⟨76, _⟩ => ⟨S1x2048x768x8, .f32⟩
  | .hbm, ⟨77, _⟩ => ⟨S1x2048x1x8, .f32⟩
  | .hbm, ⟨78, _⟩ => ⟨S1x2048x768x8, .f32⟩
  | .hbm, ⟨79, _⟩ => ⟨S1x2048x768x8, .f32⟩
  | .hbm, ⟨80, _⟩ => ⟨S1x2048x6144, .f32⟩
  | .hbm, ⟨81, _⟩ => ⟨S1x2048x768, .f32⟩
  | .hbm, ⟨82, _⟩ => ⟨S1x1x768, .f32⟩
  | .hbm, ⟨83, _⟩ => ⟨S1x2048x768, .f32⟩
  | .hbm, ⟨84, _⟩ => ⟨S1x2048x768, .f32⟩
  | .hbm, ⟨85, _⟩ => ⟨S2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_values : Ref sig .tc := ⟨.hbm, 29, rfl⟩
abbrev main_indices : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call0_cst : Ref sig .tc := ⟨.hbm, 73, rfl⟩
abbrev main_call0_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Proof.ArgIndex.lean ====
/- A host arg-max picks one of the indices it was given: the index it returns at a position is the initial index or one of
   the indices of the array, whatever the values are. A concatenation holds only elements of its operands. -/
module

public import Idealize.ShloMosaic.PureOps.Reduce
public import Idealize.ShloMosaic.Lib.Claim

@[expose] public section

namespace Cert.ArgIndex

open Idealize.ShloMosaic

/-- A left fold whose step returns the second component of one of its two arguments keeps every property of second
    components that the start and the list have. -/
theorem foldl_snd {α β : Type} (f : α × β → α × β → α × β) (hf : ∀ a b, (f a b).2 = a.2 ∨ (f a b).2 = b.2)
    (Q : β → Prop) (l : List (α × β)) (hl : ∀ p ∈ l, Q p.2) (a : α × β) (ha : Q a.2) : Q (l.foldl f a).2 := by
  induction l generalizing a with
  | nil => exact ha
  | cons b l ih =>
    refine ih (fun p hp => hl p (List.mem_cons_of_mem _ hp)) _ ?_
    rcases hf a b with e | e <;> rw [e]
    · exact ha
    · exact hl b List.mem_cons_self

/-- The index a host arg-max returns has every property that the initial index and all the array's indices have. -/
theorem argReduce_snd {F : FTy → Type} [FloatOps F] {s t u : Shape} {φ : FTy} {axes : List (Fin s.rank)} {β : Type}
    (f : F φ × β → F φ × β → F φ × β) (hf : ∀ a b, (f a b).2 = a.2 ∨ (f a b).2 = b.2) (Q : β → Prop)
    (x : FVec F s φ) (y : s.Idx → β) (ix : u.Idx → F φ) (iy : u.Idx → β) (h : s.ReducesTo axes t) (hu : 0 < u.numel)
    (hx : Q (iy (Shape.Idx.first hu))) (hy : ∀ i, Q (y i)) (j : t.Idx) :
    Q (Host.argReduce f x y ix iy h hu j).2 := by
  have hfib : ∀ p ∈ Host.argReduceFiber x y h j, Q p.2 := by
    intro p hp
    simp only [Host.argReduceFiber, List.mem_map] at hp
    obtain ⟨n, _, rfl⟩ := hp
    exact hy _
  by_cases hn : 2 ≤ (Host.argReduceNaNs x y h j).length
  · have := Host.argReduce_mem_nans f x y ix iy h hu j hn
    exact hfib _ ((Host.mem_argReduceNaNs_iff x y h j _).1 this).1
  · rw [Host.argReduce_apply_eq_reduce2 f x y ix iy h hu j (by omega), Host.reduce2_eq_foldl_fiber]
    exact foldl_snd f hf Q _ hfib _ hx

/-- A concatenation has at every index a property all its operands' elements have. -/
theorem concatenate_forall {α : Type} (Q : α → Prop) (t : Shape) (a : Fin t.rank) (xs : List ((s : Shape) × (s.Idx → α)))
    (h : Shape.Concatenates (xs.map (·.1)) t a) (hx : ∀ p ∈ xs, ∀ i, Q (p.2 i)) (j : t.Idx) :
    Q (concatenate t a xs h j) := by
  unfold concatenate
  exact hx _ (List.getElem_mem _) _

/-- The selection by a one-bit word is one of the two selected values. -/
theorem select_or {α : Type} (c : BitVec 1) (a b : α) : Scalar.select c a b = a ∨ Scalar.select c a b = b := by
  unfold Scalar.select; split
  · exact Or.inl rfl
  · exact Or.inr rfl

end Cert.ArgIndex
-- ==== Proof.HostStages.lean ====
/- What the host operations before the kernel leave in the buffers the kernel reads, stage by stage: the logits, their
   softmax over the model dimension, the expert scores, the two best tokens of every expert, the rows of logits of the
   selected pairs, and the routing weights. Each stage is a function of the stages before it. -/
module

public import proofs.«01_k».proof.Proof.Gen.KernelIdeal.Frame
public import proofs.«01_k».proof.Proof.ArgIndex
public import Idealize.ShloMosaic.Lib.StableHlo.RunRead

@[expose] public section

noncomputable section

namespace Cert.Moe

open Cert.KernelIdeal Cert.KernelIdeal.Gen
open Idealize.ShloMosaic Idealize.ShloMosaic.TcCoe Idealize.ShloMosaic.StableHlo

variable {F : FTy → Type} [FloatOps F]

/-- The gate's logits: token by model dimension by expert. -/
def logits (x : FVec F S1x2048x768 .f32) (g : FVec F S2048x16384 .f32) : FVec F S1x2048x768x8 .f32 :=
  transpose S1x2048x768x8 [2, 0, 3, 1]
    (Host.dotGeneral dot_S2048x2048x8_S1x2048x768_S2048x8x1x768_0_1_12_02_n_n none
      (shapeCast S2048x2048x8 g shapeCasts_S2048x16384_S2048x2048x8) x)
    transposes_S2048x8x1x768_S1x2048x768x8_2_0_3_1

/-- The exponentials of the logits less their maximum over the model dimension. -/
def softNum (z : FVec F S1x2048x768x8 .f32) : FVec F S1x2048x768x8 .f32 :=
  Host.exp (subf z (broadcastInDim S1x2048x768x8 ![0, 1, 2, 3]  bcast_S1x2048x1x8_S1x2048x768x8_0_1_2_3
    (broadcastInDim S1x2048x1x8 ![0, 1, 3] bcast_S1x2048x8_S1x2048x1x8_0_1_3
      (maximumf (broadcastInDim S1x2048x8 ![] bcast_S_S1x2048x8 (constant S_ .f32 0xFF800000#32))
        (Host.reduce FloatOps.maximumf z (constant S_ .f32 0xFF800000#32) reducesTo_S1x2048x768x8_S1x2048x8_d2 h_S_)))))

/-- The softmax of the logits over the model dimension. -/
def soft (z : FVec F S1x2048x768x8 .f32) : FVec F S1x2048x768x8 .f32 :=
  Host.divf (softNum z) (broadcastInDim S1x2048x768x8 ![0, 1, 2, 3] bcast_S1x2048x1x8_S1x2048x768x8_0_1_2_3
    (broadcastInDim S1x2048x1x8 ![0, 1, 3] bcast_S1x2048x8_S1x2048x1x8_0_1_3
      (Host.reduceAdd (softNum z) (constant S_ .f32 0x00000000#32) reducesTo_S1x2048x768x8_S1x2048x8_d2 h_S_)))

/-- The score of every expert at every token: the mean of the softmax over the model dimension. -/
def scores (p : FVec F S1x2048x768x8 .f32) : FVec F S1x8x2048 .f32 :=
  transpose S1x8x2048 [0, 2, 1]
    (Host.divf (Host.reduceAdd p (constant S_ .f32 0x00000000#32) reducesTo_S1x2048x768x8_S1x2048x8_d2 h_S_)
      (broadcastInDim S1x2048x8 ![] bcast_S_S1x2048x8 (constant S_ .f32 0x44400000#32)))
    transposes_S1x2048x8_S1x8x2048_0_2_1

/-- Every expert's best token. -/
def best (s : FVec F S1x8x2048 .f32) : IVec S1x8 32 :=
  fun j => (Host.argReduce reducer_argmax_f32_i32 s (iotaInDim S1x8x2048 32 2) (constant S_ .f32 0xFF800000#32)
    (constantI S_ 32 0#32) reducesTo_S1x8x2048_S1x8_d2 h_S_ j).2

/-- The scores with one token per expert overwritten by minus infinity. -/
def masked (i : IVec S1x8 32) (s : FVec F S1x8x2048 .f32) : FVec F S1x8x2048 .f32 :=
  select (cmpi .eq (iotaInDim S1x8x2048 32 2)
      (broadcastInDim S1x8x2048 ![0, 1, 2] bcast_S1x8x1_S1x8x2048_0_1_2
        (broadcastInDim S1x8x1 ![0, 1] bcast_S1x8_S1x8x1_0_1 i)))
    (broadcastInDim S1x8x2048 ![] bcast_S_S1x8x2048 (constant S_ .f32 0xFF800000#32)) s

/-- The sixteen selected tokens: each expert's best and second best, in order. -/
def pairs (i j : IVec S1x8 32) : IVec S16 32 :=
  shapeCast S16 (concatenate S1x8x2 2 [⟨S1x8x1, broadcastInDim S1x8x1 ![0, 1] bcast_S1x8_S1x8x1_0_1 i⟩,
    ⟨S1x8x1, broadcastInDim S1x8x1 ![0, 1] bcast_S1x8_S1x8x1_0_1 j⟩] concatenates_S1x8x1_S1x8x1_S1x8x2_d2)
    shapeCasts_S1x8x2_S16

/-- The expert of each of the sixteen pairs. -/
def experts : IVec S16 32 :=
  shapeCast S16 (broadcastInDim S8x2 ![0] bcast_S8_S8x2_0 (iotaInDim S8 32 0)) shapeCasts_S8x2_S16

/-- The rows of logits at the sixteen selected tokens. -/
def rows (z : FVec F S1x2048x768x8 .f32) (t : IVec S16 32) : FVec F S16x768x8 .f32 :=
  Host.gather gather_S2048x768x8_S16x1_S16x768x8_12_0_n_n_0_1_17688
    (shapeCast S2048x768x8 z shapeCasts_S1x2048x768x8_S2048x768x8)
    (broadcastInDim S16x1 ![0] bcast_S16_S16x1_0
      (select (cmpi .slt t (broadcastInDim S16 ![] bcast_S_S16 (constantI S_ 32 0#32)))
        (addi t (broadcastInDim S16 ![] bcast_S_S16 (constantI S_ 32 2048#32))) t))

/-- The index vector of the column selection, negative indices wrapped. -/
def colIdx (e : IVec S16x1x1 32) : IVec S16x1x1 32 :=
  select (cmpi .slt e (broadcastInDim S16x1x1 ![] bcast_S_S16x1x1 (constantI S_ 32 0#32)))
    (addi e (broadcastInDim S16x1x1 ![] bcast_S_S16x1x1 (constantI S_ 32 8#32))) e

/-- The column of the pair's own expert in each of the sixteen rows. -/
def cols (r : FVec F S16x768x8 .f32) (e : IVec S16x1x1 32) : FVec F S16x768x1 .f32 :=
  select (broadcastInDim S16x768x1 ![0, 2] bcast_S16x1_S16x768x1_0_2
      (Host.reduce IntOp.andi
        (andi (cmpi .sge (colIdx e) (broadcastInDim S16x1x1 ![] bcast_S_S16x1x1 (constantI S_ 32 0#32)))
          (cmpi .sle (colIdx e) (broadcastInDim S16x1x1 ![0, 1, 2] bcast_S1x1x1_S16x1x1_0_1_2
            (broadcastInDim S1x1x1 ![2] bcast_S1_S1x1x1_2 (constantI S1 32 7#32)))))
        (constantI S_ 1 1#1) reducesTo_S16x1x1_S16x1_d2 h_S_))
    (Host.gather gather_S16x768x8_S16x1x1_S16x768x1_1_2_0_0_2_2_17681 r (colIdx e))
    (broadcastInDim S16x768x1 ![] bcast_S_S16x768x1 (constant S_ .f32 0x7FC00000#32))

/-- The exponentials of sixteen rows less their maxima. -/
def rowNum (v : FVec F S16x768 .f32) : FVec F S16x768 .f32 :=
  Host.exp (subf v (broadcastInDim S16x768 ![0, 1] bcast_S16x1_S16x768_0_1
    (broadcastInDim S16x1 ![0] bcast_S16_S16x1_0
      (maximumf (broadcastInDim S16 ![] bcast_S_S16 (constant S_ .f32 0xFF800000#32))
        (Host.reduce FloatOps.maximumf v (constant S_ .f32 0xFF800000#32) reducesTo_S16x768_S16_d1 h_S_)))))

/-- The softmax of sixteen rows. -/
def rowSoft (v : FVec F S16x768 .f32) : FVec F S16x768 .f32 :=
  Host.divf (rowNum v) (broadcastInDim S16x768 ![0, 1] bcast_S16x1_S16x768_0_1
    (broadcastInDim S16x1 ![0] bcast_S16_S16x1_0
      (Host.reduceAdd (rowNum v) (constant S_ .f32 0x00000000#32) reducesTo_S16x768_S16_d1 h_S_)))

/-- One at a pair's own expert, zero at the others. -/
def onehot (e : IVec S16 32) : FVec F S16x8 .f32 :=
  uitofp .f32 (cmpi .eq
    (broadcastInDim S16x8 ![0, 1] bcast_S16x1_S16x8_0_1 (broadcastInDim S16x1 ![0] bcast_S16_S16x1_0 e))
    (broadcastInDim S16x8 ![0, 1] bcast_S1x8_S16x8_0_1 (broadcastInDim S1x8 ![1] bcast_S8_S1x8_1 (iotaInDim S8 32 0))))

/-- The routing weights over the hidden units: the softmax of a pair's column at the units of its own expert, zero at the
    other experts' units. -/
def weights (v : FVec F S16x768x1 .f32) (e : IVec S16 32) : FVec F S16x6144 .f32 :=
  shapeCast S16x6144 (mulf
    (broadcastInDim S16x768x8 ![0, 1, 2] bcast_S16x768x1_S16x768x8_0_1_2
      (broadcastInDim S16x768x1 ![0, 1] bcast_S16x768_S16x768x1_0_1
        (rowSoft (shapeCast S16x768 v shapeCasts_S16x768x1_S16x768))))
    (broadcastInDim S16x768x8 ![0, 1, 2] bcast_S16x1x8_S16x768x8_0_1_2
      (broadcastInDim S16x1x8 ![0, 2] bcast_S16x8_S16x1x8_0_2 (onehot e)))) shapeCasts_S16x768x8_S16x6144

/-! ## The stages, off the host operations -/

section Stages
variable (W : Valuation τ sig (Elt F))

/-- The first line leaves the logits. -/
theorem stage0_z : after hostOps0 W (Proc.devRef .tc main_v2)
    = logits (W (Proc.devRef .tc main_arg0)) (W (Proc.devRef .tc main_arg1)) := by
  after_reads_simp; rfl
/-- The first line leaves the scores. -/
theorem stage0_s : after hostOps0 W (Proc.devRef .tc main_v17)
    = scores (soft (logits (W (Proc.devRef .tc main_arg0)) (W (Proc.devRef .tc main_arg1)))) := by
  after_reads_simp; rfl
/-- The first arg-max leaves every expert's best token. -/
theorem stage1 : after hostOps0_1 W (Proc.devRef .tc main_v18) = best (W (Proc.devRef .tc main_v17)) := by
  after_reads_simp; rfl
/-- The next two lines leave the masked scores. -/
theorem stage2 : after hostOps0_3 (after hostOps0_2 W) (Proc.devRef .tc main_v23)
    = masked (W (Proc.devRef .tc main_v18)) (W (Proc.devRef .tc main_v17)) := by
  after_reads_simp; rfl
/-- The second arg-max leaves the best token of the masked scores. -/
theorem stage4 : after hostOps0_4 W (Proc.devRef .tc main_v24) = best (W (Proc.devRef .tc main_v23)) := by
  after_reads_simp; rfl
/-- The fifth line leaves the selected tokens. -/
theorem stage5_t : after hostOps0_5 W (Proc.devRef .tc main_v28)
    = pairs (W (Proc.devRef .tc main_v18)) (W (Proc.devRef .tc main_v24)) := by
  after_reads_simp; rfl
/-- The fifth line leaves the rows of logits at the selected tokens. -/
theorem stage5_r : after hostOps0_5 W (Proc.devRef .tc main_v39)
    = rows (W (Proc.devRef .tc main_v2)) (pairs (W (Proc.devRef .tc main_v18)) (W (Proc.devRef .tc main_v24))) := by
  after_reads_simp; rfl
/-- The fifth line leaves the pairs' experts. -/
theorem stage5_e : after hostOps0_5 W (Proc.devRef .tc main_v31) = experts := by
  after_reads_simp; rfl
/-- The fifth line leaves the pairs' experts as an index array. -/
theorem stage5_e1 : after hostOps0_5 W (Proc.devRef .tc main_v40)
    = broadcastInDim S16x1x1 ![0] bcast_S16_S16x1x1_0 experts := by
  after_reads_simp; rfl
/-- The sixth line leaves each pair's column. -/
theorem stage6 : after hostOps0_6 W (Proc.devRef .tc main_v41)
    = cols (W (Proc.devRef .tc main_v39)) (W (Proc.devRef .tc main_v40)) := by
  after_reads_simp; rfl
/-- The last line leaves the routing weights. -/
theorem stage7 : after hostOps0_7 W (Proc.devRef .tc main_v66)
    = weights (W (Proc.devRef .tc main_v41)) (W (Proc.devRef .tc main_v31)) := by
  after_reads_simp; rfl

/-- Line 7 leaves `main_v28` as it was. -/
theorem keep7_v28 : after hostOps0_7 W (Proc.devRef .tc main_v28) = W (Proc.devRef .tc main_v28) := by
  after_reads_simp
/-- Line 6 leaves `main_v28` as it was. -/
theorem keep6_v28 : after hostOps0_6 W (Proc.devRef .tc main_v28) = W (Proc.devRef .tc main_v28) := by
  after_reads_simp
/-- Line 6 leaves `main_v31` as it was. -/
theorem keep6_v31 : after hostOps0_6 W (Proc.devRef .tc main_v31) = W (Proc.devRef .tc main_v31) := by
  after_reads_simp
/-- Line 4 leaves `main_v18` as it was. -/
theorem keep4_v18 : after hostOps0_4 W (Proc.devRef .tc main_v18) = W (Proc.devRef .tc main_v18) := by
  after_reads_simp
/-- Line 3 leaves `main_v18` as it was. -/
theorem keep3_v18 : after hostOps0_3 W (Proc.devRef .tc main_v18) = W (Proc.devRef .tc main_v18) := by
  after_reads_simp
/-- Line 2 leaves `main_v18` as it was. -/
theorem keep2_v18 : after hostOps0_2 W (Proc.devRef .tc main_v18) = W (Proc.devRef .tc main_v18) := by
  after_reads_simp
/-- Line 1 leaves `main_v17` as it was. -/
theorem keep1_v17 : after hostOps0_1 W (Proc.devRef .tc main_v17) = W (Proc.devRef .tc main_v17) := by
  after_reads_simp
/-- Line 4 leaves `main_v2` as it was. -/
theorem keep4_v2 : after hostOps0_4 W (Proc.devRef .tc main_v2) = W (Proc.devRef .tc main_v2) := by
  after_reads_simp
/-- Line 3 leaves `main_v2` as it was. -/
theorem keep3_v2 : after hostOps0_3 W (Proc.devRef .tc main_v2) = W (Proc.devRef .tc main_v2) := by
  after_reads_simp
/-- Line 2 leaves `main_v2` as it was. -/
theorem keep2_v2 : after hostOps0_2 W (Proc.devRef .tc main_v2) = W (Proc.devRef .tc main_v2) := by
  after_reads_simp
/-- Line 1 leaves `main_v2` as it was. -/
theorem keep1_v2 : after hostOps0_1 W (Proc.devRef .tc main_v2) = W (Proc.devRef .tc main_v2) := by
  after_reads_simp

/-- Eight lines of host operations one after another, read as the last applied to what the ones before leave. -/
theorem after_flatten8 (l0 l1 l2 l3 l4 l5 l6 l7 : List (HloOp τ sig (Elt F))) :
    after (List.flatten [l0, l1, l2, l3, l4, l5, l6, l7]) W
      = after l7 (after l6 (after l5 (after l4 (after l3 (after l2 (after l1 (after l0 W))))))) := by
  simp only [List.flatten_cons, List.flatten_nil, List.append_nil, after_append]

end Stages

variable (m : (ℓ : Loc nD τ sig) → Buf (Elt F) ℓ) (c : Dev nD)

/-- The scores of the launch's arguments. -/
def zOf : FVec F S1x2048x768x8 .f32 := logits (m (c, Proc.devRef .tc main_arg0)) (m (c, Proc.devRef .tc main_arg1))
/-- The first token of every expert, at the launch's arguments. -/
def i1Of : IVec S1x8 32 := best (scores (soft (zOf m c)))
/-- The second token of every expert, at the launch's arguments. -/
def i2Of : IVec S1x8 32 := best (masked (i1Of m c) (scores (soft (zOf m c))))

/-- The kernel's token words are the pairs of best tokens. -/
theorem V_tokens : V m c main_v28 = pairs (i1Of m c) (i2Of m c) := by
  show after _ _ _ = _
  rw [after_flatten8, keep7_v28, keep6_v28, stage5_t, stage4, stage2, keep4_v18, keep3_v18, keep2_v18, stage1,
    keep1_v17, stage0_s]
  rfl

/-- The kernel's routing weights, at the launch's arguments. -/
theorem V_weights : V m c main_v66
    = weights (cols (rows (zOf m c) (pairs (i1Of m c) (i2Of m c))) (broadcastInDim S16x1x1 ![0] bcast_S16_S16x1x1_0 experts))
        experts := by
  show after _ _ _ = _
  rw [after_flatten8, stage7, stage6, keep6_v31, stage5_e, stage5_r, stage5_e1, stage4, stage2, keep4_v18, keep3_v18,
    keep2_v18, keep4_v2, keep3_v2, keep2_v2, keep1_v2, stage1, keep1_v17, stage0_s, stage0_z]
  rfl

/-- The kernel's tokens are the argument's, without the batch axis. -/
theorem V_x : V m c main_v67 = shapeCast S2048x768 (m (c, Proc.devRef .tc main_arg0)) shapeCasts_S1x2048x768_S2048x768 := by
  entry_read
  try rfl

/-- The kernel's hidden bias is the argument's, as one row. -/
theorem V_b1 : V m c main_v68 = shapeCast S1x6144 (m (c, Proc.devRef .tc main_arg3)) shapeCasts_S6144_S1x6144 := by
  entry_read
  try rfl

/-- The kernel's output bias is the argument's, as one row. -/
theorem V_b2 : V m c main_v69 = shapeCast S1x768 (m (c, Proc.devRef .tc main_arg5)) shapeCasts_S768_S1x768 := by
  entry_read
  try rfl

end Cert.Moe
-- ==== Proof.Tokens.lean ====
/- The token words the kernel reads are below 2048, so the side conditions its body assumes of them hold. -/
module

public import proofs.«01_k».proof.Proof.HostStages

@[expose] public section

noncomputable section

namespace Cert.Moe

open Cert.KernelIdeal Cert.KernelIdeal.Gen
open Idealize.ShloMosaic Idealize.ShloMosaic.TcCoe Idealize.ShloMosaic.StableHlo

variable {F : FTy → Type} [FloatOps F]

/-- The arg-max's step returns one of the two indices it is given. -/
theorem step_snd (a b : F .f32 × BitVec 32) :
    (reducer_argmax_f32_i32 a b).2 = a.2 ∨ (reducer_argmax_f32_i32 a b).2 = b.2 :=
  ArgIndex.select_or _ _ _

/-- Every expert's best token is a token. -/
theorem best_lt (s : FVec F S1x8x2048 .f32) (j : S1x8.Idx) : (best s j).toNat < 2048 := by
  refine ArgIndex.argReduce_snd _ step_snd (fun b : BitVec 32 => b.toNat < 2048) _ _ _ _ _ _ ?_ ?_ j
  · show (0#32).toNat < 2048
    decide
  · intro i
    show (BitVec.ofNat 32 (i 2).val).toNat < 2048
    have h : (i 2).val < 2048 := (i 2).isLt
    rw [BitVec.toNat_ofNat]
    omega

/-- Every selected token is a token. -/
theorem pairs_lt (i j : IVec S1x8 32) (hi : ∀ k, (i k).toNat < 2048) (hj : ∀ k, (j k).toNat < 2048) (k : S16.Idx) :
    (pairs i j k).toNat < 2048 := by
  unfold pairs shapeCast
  refine ArgIndex.concatenate_forall (fun b : BitVec 32 => b.toNat < 2048) _ _ _ _ ?_ _
  intro p hp
  simp only [List.mem_cons, List.not_mem_nil, or_false] at hp
  rcases hp with rfl | rfl
  · intro l; exact hi _
  · intro l; exact hj _

/-- Every token word is below 2048. -/
theorem tokens_lt (m : (ℓ : Loc nD τ sig) → Buf (Elt F) ℓ) (c : Dev nD) (i : S16.Idx) :
    (V m c main_v28 i).toNat < 2048 := by
  rw [V_tokens]
  exact pairs_lt _ _ (best_lt _) (best_lt _) i

/-- A word below 2048 names a row of the token array. -/
theorem row_inb (v : BitVec 32) (h : v.toNat < 2048) :
    ∀ a, (![(Scalar.indexCast v).toNat, 0] : Fin 2 → ℕ) a + S1x768.size a ≤ S2048x768.size a := by
  intro a
  have e : (Scalar.indexCast v).toNat = v.toNat := by
    unfold Scalar.indexCast; first | rfl | simp
  fin_cases a
  · show (Scalar.indexCast v).toNat + 1 ≤ 2048
    omega
  · show 0 + 768 ≤ 768
    omega

/-- Every word of the block of token words is below 2048. -/
theorem block_lt (m : (ℓ : Loc nD τ sig) → Buf (Elt F) ℓ) (c : Dev nD) (t : Fin cfg0.N) (i : S16.Idx) :
    (iblk m c 0 t i).toNat < 2048 := by
  unfold iblk; rw [View.read_apply, cast_eq]; exact tokens_lt m c _

/-- The side conditions the body assumes of the words it reads hold. -/
theorem hyps (m : (ℓ : Loc nD τ sig) → Buf (Elt F) ℓ) : Hyps m := by
  apply Hyps.of <;> intro c t _ _ <;>
    simp only [View.readAt_apply, Memref.IsWhole.read_unread] <;> exact row_inb _ (block_lt m c t _)

end Cert.Moe
-- ==== Proof.TokensBits.lean ====
/- The token words the kernel reads are below 2048 at the machine's floats too, so the side conditions its body assumes of
   them hold there. -/
module

public import proofs.«01_k».proof.Proof.Gen.Kernel.Frame
public import proofs.«01_k».proof.Proof.ArgIndex
public import Idealize.ShloMosaic.Lib.StableHlo.RunRead

@[expose] public section

noncomputable section

namespace Cert.MoeBits

open Cert.Kernel Cert.Kernel.Gen
open Idealize.ShloMosaic Idealize.ShloMosaic.TcCoe Idealize.ShloMosaic.StableHlo

variable {F : FTy → Type} [FloatOps F]

/-- Every expert's best token. -/
def best (s : FVec F S1x8x2048 .f32) : IVec S1x8 32 :=
  fun j => (Host.argReduce reducer_argmax_f32_i32 s (iotaInDim S1x8x2048 32 2) (constant S_ .f32 0xFF800000#32)
    (constantI S_ 32 0#32) reducesTo_S1x8x2048_S1x8_d2 h_S_ j).2

/-- The sixteen selected tokens: each expert's best and second best, in order. -/
def pairs (i j : IVec S1x8 32) : IVec S16 32 :=
  shapeCast S16 (concatenate S1x8x2 2 [⟨S1x8x1, broadcastInDim S1x8x1 ![0, 1] bcast_S1x8_S1x8x1_0_1 i⟩,
    ⟨S1x8x1, broadcastInDim S1x8x1 ![0, 1] bcast_S1x8_S1x8x1_0_1 j⟩] concatenates_S1x8x1_S1x8x1_S1x8x2_d2)
    shapeCasts_S1x8x2_S16

section Stages
variable (W : Valuation τ sig (Elt F))

/-- The first arg-max leaves every expert's best token. -/
theorem stage1 : after hostOps0_1 W (Proc.devRef .tc main_v18) = best (W (Proc.devRef .tc main_v17)) := by
  after_reads_simp; rfl
/-- The second arg-max leaves the best token of the masked scores. -/
theorem stage4 : after hostOps0_4 W (Proc.devRef .tc main_v24) = best (W (Proc.devRef .tc main_v23)) := by
  after_reads_simp; rfl
/-- The fifth line leaves the selected tokens. -/
theorem stage5_t : after hostOps0_5 W (Proc.devRef .tc main_v28)
    = pairs (W (Proc.devRef .tc main_v18)) (W (Proc.devRef .tc main_v24)) := by
  after_reads_simp; rfl
/-- Line 7 leaves `main_v28` as it was. -/
theorem keep7_v28 : after hostOps0_7 W (Proc.devRef .tc main_v28) = W (Proc.devRef .tc main_v28) := by
  after_reads_simp
/-- Line 6 leaves `main_v28` as it was. -/
theorem keep6_v28 : after hostOps0_6 W (Proc.devRef .tc main_v28) = W (Proc.devRef .tc main_v28) := by
  after_reads_simp
/-- Line 4 leaves `main_v18` as it was. -/
theorem keep4_v18 : after hostOps0_4 W (Proc.devRef .tc main_v18) = W (Proc.devRef .tc main_v18) := by
  after_reads_simp
/-- Line 3 leaves `main_v18` as it was. -/
theorem keep3_v18 : after hostOps0_3 W (Proc.devRef .tc main_v18) = W (Proc.devRef .tc main_v18) := by
  after_reads_simp
/-- Line 2 leaves `main_v18` as it was. -/
theorem keep2_v18 : after hostOps0_2 W (Proc.devRef .tc main_v18) = W (Proc.devRef .tc main_v18) := by
  after_reads_simp
/-- Eight lines of host operations one after another, read as the last applied to what the ones before leave. -/
theorem after_flatten8 (l0 l1 l2 l3 l4 l5 l6 l7 : List (HloOp τ sig (Elt F))) :
    after (List.flatten [l0, l1, l2, l3, l4, l5, l6, l7]) W
      = after l7 (after l6 (after l5 (after l4 (after l3 (after l2 (after l1 (after l0 W))))))) := by
  simp only [List.flatten_cons, List.flatten_nil, List.append_nil, after_append]

end Stages

/-- The kernel's token words are pairs of best tokens, of some scores. -/
theorem V_tokens (m : (ℓ : Loc nD τ sig) → Buf (Elt F) ℓ) (c : Dev nD) :
    ∃ s₁ s₂ : FVec F S1x8x2048 .f32, V m c main_v28 = pairs (best s₁) (best s₂) := by
  unfold V
  rw [after_flatten8, keep7_v28, keep6_v28, stage5_t, stage4, keep4_v18, keep3_v18, keep2_v18, stage1]
  exact ⟨_, _, rfl⟩

/-- The arg-max's step returns one of the two indices it is given. -/
theorem step_snd (a b : F .f32 × BitVec 32) :
    (reducer_argmax_f32_i32 a b).2 = a.2 ∨ (reducer_argmax_f32_i32 a b).2 = b.2 :=
  ArgIndex.select_or _ _ _

/-- Every expert's best token is a token. -/
theorem best_lt (s : FVec F S1x8x2048 .f32) (j : S1x8.Idx) : (best s j).toNat < 2048 := by
  refine ArgIndex.argReduce_snd _ step_snd (fun b : BitVec 32 => b.toNat < 2048) _ _ _ _ _ _ ?_ ?_ j
  · show (0#32).toNat < 2048
    decide
  · intro i
    show (BitVec.ofNat 32 (i 2).val).toNat < 2048
    have h : (i 2).val < 2048 := (i 2).isLt
    rw [BitVec.toNat_ofNat]
    omega

/-- Every selected token is a token. -/
theorem pairs_lt (i j : IVec S1x8 32) (hi : ∀ k, (i k).toNat < 2048) (hj : ∀ k, (j k).toNat < 2048) (k : S16.Idx) :
    (pairs i j k).toNat < 2048 := by
  unfold pairs shapeCast
  refine ArgIndex.concatenate_forall (fun b : BitVec 32 => b.toNat < 2048) _ _ _ _ ?_ _
  intro p hp
  simp only [List.mem_cons, List.not_mem_nil, or_false] at hp
  rcases hp with rfl | rfl
  · intro l; exact hi _
  · intro l; exact hj _

/-- Every token word is below 2048. -/
theorem tokens_lt (m : (ℓ : Loc nD τ sig) → Buf (Elt F) ℓ) (c : Dev nD) (i : S16.Idx) :
    (V m c main_v28 i).toNat < 2048 := by
  obtain ⟨s₁, s₂, e⟩ := V_tokens m c
  rw [e]
  exact pairs_lt _ _ (best_lt _) (best_lt _) i

/-- A word below 2048 names a row of the token array. -/
theorem row_inb (v : BitVec 32) (h : v.toNat < 2048) :
    ∀ a, (![(Scalar.indexCast v).toNat, 0] : Fin 2 → ℕ) a + S1x768.size a ≤ S2048x768.size a := by
  intro a
  have e : (Scalar.indexCast v).toNat = v.toNat := by
    unfold Scalar.indexCast; first | rfl | simp
  fin_cases a
  · show (Scalar.indexCast v).toNat + 1 ≤ 2048
    omega
  · show 0 + 768 ≤ 768
    omega

/-- Every word of the block of token words is below 2048. -/
theorem block_lt (m : (ℓ : Loc nD τ sig) → Buf (Elt F) ℓ) (c : Dev nD) (t : Fin cfg0.N) (i : S16.Idx) :
    (iblk m c 0 t i).toNat < 2048 := by
  unfold iblk; rw [View.read_apply, cast_eq]; exact tokens_lt m c _

/-- The side conditions the body assumes of the words it reads hold. -/
theorem hyps (m : (ℓ : Loc nD τ sig) → Buf (Elt F) ℓ) : Hyps m := by
  apply Hyps.of <;> intro c t _ _ <;>
    simp only [View.readAt_apply, Memref.IsWhole.read_unread] <;> exact row_inb _ (block_lt m c t _)

end Cert.MoeBits
-- ==== Proof.Points.lean ====
/- What one grid point of the kernel leaves: the gathered rows, the running product, and the output block. -/
module

public import proofs.«01_k».proof.Proof.Gen.KernelIdeal.Value
public import Idealize.ShloMosaic.Lib.Pipeline.ReadBack
public import Idealize.ShloMosaic.Lib.Pipeline.ValueKit
public import Idealize.ShloMosaic.Lib.WritesUnit
public import Idealize.ShloMosaic.Lib.Pointwise

@[expose] public section

noncomputable section

namespace Cert.Moe

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Row `p` of `y` added into the row of `X` that the word `v` names. -/
def addRow (X : Vec F S2048x768 .f32) (v : BitVec 32) (y : Vec F S16x768 .f32) (p : Fin 16) : Vec F S2048x768 .f32 :=
  fun i => if (i 0).val = v.toNat then FloatOps.addf (X i) (y (ix2 p (i 1))) else X i

/-- A store of one row, the row that was there plus row `p` of `y`, adds that row into what was there. -/
theorem store_row (pay : Vec F S16x768 .f32 → Vec F S1x768 .f32 → FVec F S1x768 .f32) (v : BitVec 32) (y : Vec F S16x768 .f32)
    (p : Fin 16) (hs : S16x768.Slices ![p.val, 0] S1x768)
    (hp : ∀ z r, pay z r = addf (shapeCast S1x768 r shapeCasts_S1x768_S1x768) (extractStridedSlice S1x768 ![p.val, 0] z hs))
    (M : View sig .tc .vmem S2048x768 .f32) (f : M.ty.Contents (Elt F)) (L : List (View.Piece (Elt F) S2048x768 .f32))
    (off : Fin 2 → ℕ) (inb) (z : Vec F S16x768 .f32) (R : Vec F S1x768 .f32) (hoff : off = ![v.toNat, 0]) (hz : z = y)
    (hR : R = M.readAt (Elt F) (Rect.unit (s := S2048x768) off S1x768.size inb).toLoadRect (M.writes (Elt F) f L)) :
    M.read (Elt F) (M.writes (Elt F) f (⟨Rect.unit (s := S2048x768) off S1x768.size inb, pay z R⟩ :: L))
      = addRow (M.read (Elt F) (M.writes (Elt F) f L)) v y p := by
  subst hz
  have hw : pay z R = addf (F := F) _ _ := hp z R
  rw [shapeCast_self] at hw
  funext i
  rw [View.read_writes_cons_rows M f inb _ L i hoff (W := 1) rfl rfl]
  have h0 : (i 0).val < 2048 := (i 0).isLt
  unfold addRow
  by_cases h : (i 0).val = v.toNat
  · rw [if_pos h, dif_pos ⟨by omega, by omega⟩, hw]
    refine congrArg₂ (FloatOps.addf (F := F)) ?_ ?_
    · rw [hR, View.readAt_apply]
      congr 1
      funext a
      apply Fin.ext
      subst hoff
      fin_cases a
      · show v.toNat + 1 * ((i 0).val - v.toNat) = (i 0).val
        omega
      · show 0 + 1 * ((i 1).val - 0) = (i 1).val
        omega
    · simp only [extractStridedSlice]
      congr 1
      funext a
      apply Fin.ext
      fin_cases a
      · show p.val + ((i 0).val - v.toNat) = p.val
        omega
      · show 0 + ((i 1).val - 0) = (i 1).val
        omega
  · rw [if_neg h, dif_neg (by omega)]

/-- The offset of a row named by a word, the word known. -/
theorem offset_eq (w v : BitVec 32) (h : w = v) : (![(Scalar.indexCast w).toNat, 0] : Fin 2 → ℕ) = ![v.toNat, 0] := by
  subst h; rfl

/-- The word at position `k` of the block of token words. -/
theorem word_at (M : Memref sig .tc .smem S16 .i32) (h : M.IsWhole) (x : Vec F S16 .i32) (k : ℕ) (inb) (hk : k < 16) (z) :
    M.view.readAt (Elt F) (Rect.unit (s := S16) ![k] S1.size inb).toLoadRect (h.unread x) z = x (ix1 ⟨k, hk⟩) := by
  simp only [View.readAt_apply, Memref.IsWhole.read_unread]
  congr 1
  funext a
  fin_cases a
  apply Fin.ext
  have h1 : (z 0).val < 1 := (z 0).isLt
  show k + 1 * (z 0).val = k
  omega

/-- The middle points keep the gathered rows. -/
theorem rows_B (hH : Hyps m) (c : Dev nD) (t : Fin cfg0.N) (h0 : ¬t.val % 8 = 0) (h1 : ¬t.val % 8 = 7) :
    (outsAt0 m hH c t.val t.isLt).2.1
      = (outsAt0 m hH c (t.val - 1) (Nat.lt_of_le_of_lt (Nat.sub_le _ _) t.isLt)).2.1 := by
  rw [outsAt0_B m hH c t h0 h1]
  rfl

/-- The last point keeps the gathered rows. -/
theorem rows_C (hH : Hyps m) (c : Dev nD) (t : Fin cfg0.N) (h0 : ¬t.val % 8 = 0) (h1 : t.val % 8 = 7) :
    (outsAt0 m hH c t.val t.isLt).2.1
      = (outsAt0 m hH c (t.val - 1) (Nat.lt_of_le_of_lt (Nat.sub_le _ _) t.isLt)).2.1 := by
  rw [outsAt0_C m hH c t h0 h1]
  rfl

/-- The middle points keep the output block. -/
theorem out_B (hH : Hyps m) (c : Dev nD) (t : Fin cfg0.N) (h0 : ¬t.val % 8 = 0) (h1 : ¬t.val % 8 = 7) :
    (outsAt0 m hH c t.val t.isLt).1
      = (outsAt0 m hH c (t.val - 1) (Nat.lt_of_le_of_lt (Nat.sub_le _ _) t.isLt)).1 := by
  rw [outsAt0_B m hH c t h0 h1]
  rfl

/-- The first point fills the output block with the second bias. -/
theorem out_A (hH : Hyps m) (c : Dev nD) (t : Fin cfg0.N) (h0 : t.val % 8 = 0) (h1 : ¬t.val % 8 = 7) :
    (outsAt0 m hH c t.val t.isLt).1 = k0_pay9 (iblk m c 4 t) := by
  rw [outsAt0_A m hH c t h0 h1]
  frame_out

/-- The middle points add their chunk's product to the running product. -/
theorem acc_B (hH : Hyps m) (c : Dev nD) (t : Fin cfg0.N) (h0 : ¬t.val % 8 = 0) (h1 : ¬t.val % 8 = 7) :
    (outsAt0 m hH c t.val t.isLt).2.2
      = k0_pay5 (outsAt0 m hH c (t.val - 1) (Nat.lt_of_le_of_lt (Nat.sub_le _ _) t.isLt)).2.1 (iblk m c 5 t) (iblk m c 3 t)
          (iblk m c 2 t) (outsAt0 m hH c (t.val - 1) (Nat.lt_of_le_of_lt (Nat.sub_le _ _) t.isLt)).2.2 (iblk m c 6 t) := by
  rw [outsAt0_B m hH c t h0 h1]
  frame_out
  simp only [read_unread_whole]

/-- So does the last point. -/
theorem acc_C (hH : Hyps m) (c : Dev nD) (t : Fin cfg0.N) (h0 : ¬t.val % 8 = 0) (h1 : t.val % 8 = 7) :
    (outsAt0 m hH c t.val t.isLt).2.2
      = k0_pay5 (outsAt0 m hH c (t.val - 1) (Nat.lt_of_le_of_lt (Nat.sub_le _ _) t.isLt)).2.1 (iblk m c 5 t) (iblk m c 3 t)
          (iblk m c 2 t) (outsAt0 m hH c (t.val - 1) (Nat.lt_of_le_of_lt (Nat.sub_le _ _) t.isLt)).2.2 (iblk m c 6 t) := by
  rw [outsAt0_C m hH c t h0 h1]
  frame_out
  simp only [read_unread_whole]

/-- The rows of the token block that the token words name. -/
def gathered (v : Vec F S16 .i32) (x : Vec F S2048x768 .f32) (hv : ∀ i, (v i).toNat < 2048) : Vec F S16x768 .f32 :=
  fun i => x (ix2 ⟨(v (ix1 (i 0))).toNat, hv _⟩ (i 1))

/-- The word at position `k` of the block of token words, the load spelt over the block's contents. -/
theorem word_ld (M : Memref sig .tc .smem S16 .i32) (h : M.IsWhole) (x : Vec F S16 .i32) (k : ℕ) (inb) (hk : k < 16) (z) :
    View.ld (View.read (Elt F) M.view (h.unread x)) (Rect.unit (s := S16) ![k] ![1] inb) z = x (ix1 ⟨k, hk⟩) :=
  word_at M h x k inb hk z

/-- An index of row `k` lies in the rectangle of row `k`. -/
theorem mem_row (y : S16x768.Idx) (k : ℕ) (h : (y 0).val = k) (inb) :
    y ∈ (Rect.unit (s := S16x768) ![k, 0] ![1, 768] inb).set := by
  have hy1 : (y 1).val < 768 := (y 1).isLt
  rw [Rect.mem_set_unit]
  intro a
  fin_cases a
  · show k ≤ (y 0).val ∧ (y 0).val < k + 1
    omega
  · show 0 ≤ (y 1).val ∧ (y 1).val < 0 + 768
    omega

/-- A one-row piece at row `k` is a block of the array whose row `k` it holds. -/
theorem row_piece (R : Fin 16 → Vec F S1x768 .f32) (k : ℕ) (hk : k < 16) (inb) (x : S1x768.Idx) :
    R ⟨k, hk⟩ x = (fun y : S16x768.Idx => R (y 0) (ix2 0 (y 1))) ((Rect.unit (s := S16x768) ![k, 0] ![1, 768] inb).emb x) := by
  have h0 : (x 0).val < 1 := (x 0).isLt
  have hr : ((Rect.unit (s := S16x768) ![k, 0] ![1, 768] inb).emb x) 0 = (⟨k, hk⟩ : Fin 16) := by
    apply Fin.ext
    show k + 1 * (x 0).val = k
    omega
  show _ = R (((Rect.unit (s := S16x768) ![k, 0] ![1, 768] inb).emb x) 0) _
  rw [hr]
  congr 1
  funext a
  apply Fin.ext
  fin_cases a
  · show (x 0).val = 0
    omega
  · show (x 1).val = 0 + 1 * (x 1).val
    omega

/-- Sixteen one-row stores, one to each row, leave the array of the sixteen rows. -/
theorem canon_rows (R0 R1 R2 R3 R4 R5 R6 R7 R8 R9 R10 R11 R12 R13 R14 R15 : Vec F S1x768 .f32) :
    View.canon (Val := Elt F) (s := S16x768) (e := .f32) [⟨Rect.unit (s := S16x768) ![15, 0] ![1, 768] inb_S16x768_S1x768_15_0, R15⟩, ⟨Rect.unit (s := S16x768) ![14, 0] ![1, 768] inb_S16x768_S1x768_14_0, R14⟩, ⟨Rect.unit (s := S16x768) ![13, 0] ![1, 768] inb_S16x768_S1x768_13_0, R13⟩, ⟨Rect.unit (s := S16x768) ![12, 0] ![1, 768] inb_S16x768_S1x768_12_0, R12⟩, ⟨Rect.unit (s := S16x768) ![11, 0] ![1, 768] inb_S16x768_S1x768_11_0, R11⟩, ⟨Rect.unit (s := S16x768) ![10, 0] ![1, 768] inb_S16x768_S1x768_10_0, R10⟩, ⟨Rect.unit (s := S16x768) ![9, 0] ![1, 768] inb_S16x768_S1x768_9_0, R9⟩, ⟨Rect.unit (s := S16x768) ![8, 0] ![1, 768] inb_S16x768_S1x768_8_0, R8⟩, ⟨Rect.unit (s := S16x768) ![7, 0] ![1, 768] inb_S16x768_S1x768_7_0, R7⟩, ⟨Rect.unit (s := S16x768) ![6, 0] ![1, 768] inb_S16x768_S1x768_6_0, R6⟩, ⟨Rect.unit (s := S16x768) ![5, 0] ![1, 768] inb_S16x768_S1x768_5_0, R5⟩, ⟨Rect.unit (s := S16x768) ![4, 0] ![1, 768] inb_S16x768_S1x768_4_0, R4⟩, ⟨Rect.unit (s := S16x768) ![3, 0] ![1, 768] inb_S16x768_S1x768_3_0, R3⟩, ⟨Rect.unit (s := S16x768) ![2, 0] ![1, 768] inb_S16x768_S1x768_2_0, R2⟩, ⟨Rect.unit (s := S16x768) ![1, 0] ![1, 768] inb_S16x768_S1x768_1_0, R1⟩, ⟨Rect.unit (s := S16x768) ![0, 0] ![1, 768] inb_S16x768_S1x768_0_0, R0⟩]
      = fun y => (![R0, R1, R2, R3, R4, R5, R6, R7, R8, R9, R10, R11, R12, R13, R14, R15] : Fin 16 → Vec F S1x768 .f32) (y 0) (ix2 0 (y 1)) := by
  generalize hR : (![R0, R1, R2, R3, R4, R5, R6, R7, R8, R9, R10, R11, R12, R13, R14, R15] : Fin 16 → Vec F S1x768 .f32) = R
  obtain rfl : R0 = R 0 := by rw [← hR]; rfl
  obtain rfl : R1 = R 1 := by rw [← hR]; rfl
  obtain rfl : R2 = R 2 := by rw [← hR]; rfl
  obtain rfl : R3 = R 3 := by rw [← hR]; rfl
  obtain rfl : R4 = R 4 := by rw [← hR]; rfl
  obtain rfl : R5 = R 5 := by rw [← hR]; rfl
  obtain rfl : R6 = R 6 := by rw [← hR]; rfl
  obtain rfl : R7 = R 7 := by rw [← hR]; rfl
  obtain rfl : R8 = R 8 := by rw [← hR]; rfl
  obtain rfl : R9 = R 9 := by rw [← hR]; rfl
  obtain rfl : R10 = R 10 := by rw [← hR]; rfl
  obtain rfl : R11 = R 11 := by rw [← hR]; rfl
  obtain rfl : R12 = R 12 := by rw [← hR]; rfl
  obtain rfl : R13 = R 13 := by rw [← hR]; rfl
  obtain rfl : R14 = R 14 := by rw [← hR]; rfl
  obtain rfl : R15 = R 15 := by rw [← hR]; rfl
  clear hR
  funext y
  refine View.canon_apply_of_pieces (fun y : S16x768.Idx => R (y 0) (ix2 0 (y 1))) _ ?_ y ?_
  · refine View.PiecesOf.mem (G := fun y : S16x768.Idx => R (y 0) (ix2 0 (y 1))) ?_
    exact ⟨row_piece R 15 (by decide) inb_S16x768_S1x768_15_0, row_piece R 14 (by decide) inb_S16x768_S1x768_14_0, row_piece R 13 (by decide) inb_S16x768_S1x768_13_0, row_piece R 12 (by decide) inb_S16x768_S1x768_12_0, row_piece R 11 (by decide) inb_S16x768_S1x768_11_0, row_piece R 10 (by decide) inb_S16x768_S1x768_10_0, row_piece R 9 (by decide) inb_S16x768_S1x768_9_0, row_piece R 8 (by decide) inb_S16x768_S1x768_8_0, row_piece R 7 (by decide) inb_S16x768_S1x768_7_0, row_piece R 6 (by decide) inb_S16x768_S1x768_6_0, row_piece R 5 (by decide) inb_S16x768_S1x768_5_0, row_piece R 4 (by decide) inb_S16x768_S1x768_4_0, row_piece R 3 (by decide) inb_S16x768_S1x768_3_0, row_piece R 2 (by decide) inb_S16x768_S1x768_2_0, row_piece R 1 (by decide) inb_S16x768_S1x768_1_0, row_piece R 0 (by decide) inb_S16x768_S1x768_0_0, trivial⟩
  · have hy : (y 0).val < 16 := (y 0).isLt
    have hk : (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 := by omega
    rcases hk with h | h | h | h | h | h | h | h | h | h | h | h | h | h | h | h
    · exact ⟨_, .tail _ (.tail _ (.tail _ (.tail _ (.tail _ (.tail _ (.tail _ (.tail _ (.tail _ (.tail _ (.tail _ (.tail _ (.tail _ (.tail _ (.tail _ (List.Mem.head _))))))))))))))), mem_row y 0 h inb_S16x768_S1x768_0_0⟩
    · exact ⟨_, .tail _ (.tail _ (.tail _ (.tail _ (.tail _ (.tail _ (.tail _ (.tail _ (.tail _ (.tail _ (.tail _ (.tail _ (.tail _ (.tail _ (List.Mem.head _)))))))))))))), mem_row y 1 h inb_S16x768_S1x768_1_0⟩
    · exact ⟨_, .tail _ (.tail _ (.tail _ (.tail _ (.tail _ (.tail _ (.tail _ (.tail _ (.tail _ (.tail _ (.tail _ (.tail _ (.tail _ (List.Mem.head _))))))))))))), mem_row y 2 h inb_S16x768_S1x768_2_0⟩
    · exact ⟨_, .tail _ (.tail _ (.tail _ (.tail _ (.tail _ (.tail _ (.tail _ (.tail _ (.tail _ (.tail _ (.tail _ (.tail _ (List.Mem.head _)))))))))))), mem_row y 3 h inb_S16x768_S1x768_3_0⟩
    · exact ⟨_, .tail _ (.tail _ (.tail _ (.tail _ (.tail _ (.tail _ (.tail _ (.tail _ (.tail _ (.tail _ (.tail _ (List.Mem.head _))))))))))), mem_row y 4 h inb_S16x768_S1x768_4_0⟩
    · exact ⟨_, .tail _ (.tail _ (.tail _ (.tail _ (.tail _ (.tail _ (.tail _ (.tail _ (.tail _ (.tail _ (List.Mem.head _)))))))))), mem_row y 5 h inb_S16x768_S1x768_5_0⟩
    · exact ⟨_, .tail _ (.tail _ (.tail _ (.tail _ (.tail _ (.tail _ (.tail _ (.tail _ (.tail _ (List.Mem.head _))))))))), mem_row y 6 h inb_S16x768_S1x768_6_0⟩
    · exact ⟨_, .tail _ (.tail _ (.tail _ (.tail _ (.tail _ (.tail _ (.tail _ (.tail _ (List.Mem.head _)))))))), mem_row y 7 h inb_S16x768_S1x768_7_0⟩
    · exact ⟨_, .tail _ (.tail _ (.tail _ (.tail _ (.tail _ (.tail _ (.tail _ (List.Mem.head _))))))), mem_row y 8 h inb_S16x768_S1x768_8_0⟩
    · exact ⟨_, .tail _ (.tail _ (.tail _ (.tail _ (.tail _ (.tail _ (List.Mem.head _)))))), mem_row y 9 h inb_S16x768_S1x768_9_0⟩
    · exact ⟨_, .tail _ (.tail _ (.tail _ (.tail _ (.tail _ (List.Mem.head _))))), mem_row y 10 h inb_S16x768_S1x768_10_0⟩
    · exact ⟨_, .tail _ (.tail _ (.tail _ (.tail _ (List.Mem.head _)))), mem_row y 11 h inb_S16x768_S1x768_11_0⟩
    · exact ⟨_, .tail _ (.tail _ (.tail _ (List.Mem.head _))), mem_row y 12 h inb_S16x768_S1x768_12_0⟩
    · exact ⟨_, .tail _ (.tail _ (List.Mem.head _)), mem_row y 13 h inb_S16x768_S1x768_13_0⟩
    · exact ⟨_, .tail _ (List.Mem.head _), mem_row y 14 h inb_S16x768_S1x768_14_0⟩
    · exact ⟨_, List.Mem.head _, mem_row y 15 h inb_S16x768_S1x768_15_0⟩

/-- A property of all sixteen rows, row by row. -/
theorem forall16 {P : Fin 16 → Prop} (h0 : P 0) (h1 : P 1) (h2 : P 2) (h3 : P 3) (h4 : P 4) (h5 : P 5) (h6 : P 6) (h7 : P 7) (h8 : P 8) (h9 : P 9) (h10 : P 10) (h11 : P 11) (h12 : P 12) (h13 : P 13) (h14 : P 14) (h15 : P 15) : ∀ a, P a := by
  intro a
  fin_cases a <;> assumption

/-- A row loaded from the token block where the word says is that row. -/
theorem row_load (x : Vec F S2048x768 .f32) (w : BitVec 32) (hw : w.toNat < 2048)
    (off : Fin 2 → ℕ) (inb) (hoff : off = ![w.toNat, 0]) (b : Fin 768) :
    View.ld x (Rect.unit (s := S2048x768) off ![1, 768] inb) (ix2 0 b) = x (ix2 ⟨w.toNat, hw⟩ b) := by
  subst hoff
  unfold View.ld
  congr 1
  funext a
  apply Fin.ext
  fin_cases a
  · show w.toNat + 1 * 0 = w.toNat
    omega
  · show 0 + 1 * b.val = b.val
    omega

set_option maxHeartbeats 1000000 in
/-- What the first point leaves in the gathered rows, over any contents of the blocks it reads. -/
theorem first_rows : ∀ c i arg1 harg1 arg2 harg2 arg3 harg3 arg4 harg4 arg5 harg5 arg6 harg6 arg7 harg7 arg8 harg8 arg9 harg9 arg10 harg10 hc0 hc1 x0 x1 x2 x3 x4 x5 x6 k0_hw1 k0_hw2 k0_hw3 k0_hw4 k0_hw5 k0_hw6 k0_hw7 k0_hw8 k0_hw9 k0_hw10 k0_hw11 k0_hw12 k0_hw13 k0_hw14 k0_hw15 k0_hw16,
    ∀ hv : ∀ i, BitVec.toNat (x0 i) < 2048, sout0_A_0 (F := F) c i arg1 harg1 arg2 harg2 arg3 harg3 arg4 harg4 arg5 harg5 arg6 harg6 arg7 harg7 arg8 harg8 arg9 harg9 arg10 harg10 hc0 hc1 x0 x1 x2 x3 x4 x5 x6 k0_hw1 k0_hw2 k0_hw3 k0_hw4 k0_hw5 k0_hw6 k0_hw7 k0_hw8 k0_hw9 k0_hw10 k0_hw11 k0_hw12 k0_hw13 k0_hw14 k0_hw15 k0_hw16 = gathered x0 x1 hv := by
  intro c i arg1 harg1 arg2 harg2 arg3 harg3 arg4 harg4 arg5 harg5 arg6 harg6 arg7 harg7 arg8 harg8 arg9 harg9 arg10 harg10 hc0 hc1 x0 x1 x2 x3 x4 x5 x6 k0_hw1 k0_hw2 k0_hw3 k0_hw4 k0_hw5 k0_hw6 k0_hw7 k0_hw8 k0_hw9 k0_hw10 k0_hw11 k0_hw12 k0_hw13 k0_hw14 k0_hw15 k0_hw16 hv
  frame_out
  rw [canon_rows]
  funext y
  show _ = x1 (ix2 ⟨(x0 (ix1 (y 0))).toNat, hv _⟩ (y 1))
  generalize y 0 = a, y 1 = b
  revert a
  refine forall16 ?_ ?_ ?_ ?_ ?_ ?_ ?_ ?_ ?_ ?_ ?_ ?_ ?_ ?_ ?_ ?_
  · exact (congrFun ((shapeCast_self _ _).trans (shapeCast_self _ _)) _).trans (row_load _ _ (hv _) _ _
      (congrArg k0_off1 (word_ld arg1 harg1 x0 0 inb_S16_S1_0 (by decide) _)) b)
  · exact (congrFun ((shapeCast_self _ _).trans (shapeCast_self _ _)) _).trans (row_load _ _ (hv _) _ _
      (congrArg k0_off2 (word_ld arg1 harg1 x0 1 inb_S16_S1_1 (by decide) _)) b)
  · exact (congrFun ((shapeCast_self _ _).trans (shapeCast_self _ _)) _).trans (row_load _ _ (hv _) _ _
      (congrArg k0_off3 (word_ld arg1 harg1 x0 2 inb_S16_S1_2 (by decide) _)) b)
  · exact (congrFun ((shapeCast_self _ _).trans (shapeCast_self _ _)) _).trans (row_load _ _ (hv _) _ _
      (congrArg k0_off4 (word_ld arg1 harg1 x0 3 inb_S16_S1_3 (by decide) _)) b)
  · exact (congrFun ((shapeCast_self _ _).trans (shapeCast_self _ _)) _).trans (row_load _ _ (hv _) _ _
      (congrArg k0_off5 (word_ld arg1 harg1 x0 4 inb_S16_S1_4 (by decide) _)) b)
  · exact (congrFun ((shapeCast_self _ _).trans (shapeCast_self _ _)) _).trans (row_load _ _ (hv _) _ _
      (congrArg k0_off6 (word_ld arg1 harg1 x0 5 inb_S16_S1_5 (by decide) _)) b)
  · exact (congrFun ((shapeCast_self _ _).trans (shapeCast_self _ _)) _).trans (row_load _ _ (hv _) _ _
      (congrArg k0_off7 (word_ld arg1 harg1 x0 6 inb_S16_S1_6 (by decide) _)) b)
  · exact (congrFun ((shapeCast_self _ _).trans (shapeCast_self _ _)) _).trans (row_load _ _ (hv _) _ _
      (congrArg k0_off8 (word_ld arg1 harg1 x0 7 inb_S16_S1_7 (by decide) _)) b)
  · exact (congrFun ((shapeCast_self _ _).trans (shapeCast_self _ _)) _).trans (row_load _ _ (hv _) _ _
      (congrArg k0_off9 (word_ld arg1 harg1 x0 8 inb_S16_S1_8 (by decide) _)) b)
  · exact (congrFun ((shapeCast_self _ _).trans (shapeCast_self _ _)) _).trans (row_load _ _ (hv _) _ _
      (congrArg k0_off10 (word_ld arg1 harg1 x0 9 inb_S16_S1_9 (by decide) _)) b)
  · exact (congrFun ((shapeCast_self _ _).trans (shapeCast_self _ _)) _).trans (row_load _ _ (hv _) _ _
      (congrArg k0_off11 (word_ld arg1 harg1 x0 10 inb_S16_S1_10 (by decide) _)) b)
  · exact (congrFun ((shapeCast_self _ _).trans (shapeCast_self _ _)) _).trans (row_load _ _ (hv _) _ _
      (congrArg k0_off12 (word_ld arg1 harg1 x0 11 inb_S16_S1_11 (by decide) _)) b)
  · exact (congrFun ((shapeCast_self _ _).trans (shapeCast_self _ _)) _).trans (row_load _ _ (hv _) _ _
      (congrArg k0_off13 (word_ld arg1 harg1 x0 12 inb_S16_S1_12 (by decide) _)) b)
  · exact (congrFun ((shapeCast_self _ _).trans (shapeCast_self _ _)) _).trans (row_load _ _ (hv _) _ _
      (congrArg k0_off14 (word_ld arg1 harg1 x0 13 inb_S16_S1_13 (by decide) _)) b)
  · exact (congrFun ((shapeCast_self _ _).trans (shapeCast_self _ _)) _).trans (row_load _ _ (hv _) _ _
      (congrArg k0_off15 (word_ld arg1 harg1 x0 14 inb_S16_S1_14 (by decide) _)) b)
  · exact (congrFun ((shapeCast_self _ _).trans (shapeCast_self _ _)) _).trans (row_load _ _ (hv _) _ _
      (congrArg k0_off16 (word_ld arg1 harg1 x0 15 inb_S16_S1_15 (by decide) _)) b)

/-- The first point gathers the rows the token words name. -/
theorem rows_A (hH : Hyps m) (c : Dev nD) (t : Fin cfg0.N) (h0 : t.val % 8 = 0) (h1 : ¬t.val % 8 = 7)
    (hv : ∀ i : S16.Idx, BitVec.toNat (iblk m c 0 t i) < 2048) :
    (outsAt0 m hH c t.val t.isLt).2.1 = gathered (iblk m c 0 t) (iblk m c 1 t) hv := by
  rw [outsAt0_A m hH c t h0 h1]
  dsimp only
  exact first_rows _ _ _ _ _ _ _ _ _ _ _ _ _ _ _ _ _ _ _ _ _ _ _ _ _ _ _ _ _ _ _ _ _ _ _ _ _ _ _ _ _ _ _ _ _ _ _ hv

/-- What the first point leaves in the running product: its chunk's product over zero. -/
theorem first_acc : ∀ c i arg1 harg1 arg2 harg2 arg3 harg3 arg4 harg4 arg5 harg5 arg6 harg6 arg7 harg7 arg8 harg8 arg9 harg9 arg10 harg10 hc0 hc1 x0 x1 x2 x3 x4 x5 x6 k0_hw1 k0_hw2 k0_hw3 k0_hw4 k0_hw5 k0_hw6 k0_hw7 k0_hw8 k0_hw9 k0_hw10 k0_hw11 k0_hw12 k0_hw13 k0_hw14 k0_hw15 k0_hw16,
    sout0_A_1 (F := F) c i arg1 harg1 arg2 harg2 arg3 harg3 arg4 harg4 arg5 harg5 arg6 harg6 arg7 harg7 arg8 harg8 arg9 harg9 arg10 harg10 hc0 hc1 x0 x1 x2 x3 x4 x5 x6 k0_hw1 k0_hw2 k0_hw3 k0_hw4 k0_hw5 k0_hw6 k0_hw7 k0_hw8 k0_hw9 k0_hw10 k0_hw11 k0_hw12 k0_hw13 k0_hw14 k0_hw15 k0_hw16
      = k0_pay5 (sout0_A_0 (F := F) c i arg1 harg1 arg2 harg2 arg3 harg3 arg4 harg4 arg5 harg5 arg6 harg6 arg7 harg7 arg8 harg8 arg9 harg9 arg10 harg10 hc0 hc1 x0 x1 x2 x3 x4 x5 x6 k0_hw1 k0_hw2 k0_hw3 k0_hw4 k0_hw5 k0_hw6 k0_hw7 k0_hw8 k0_hw9 k0_hw10 k0_hw11 k0_hw12 k0_hw13 k0_hw14 k0_hw15 k0_hw16) x5 x3 x2 k0_pay10 x6 := by
  intro c i arg1 harg1 arg2 harg2 arg3 harg3 arg4 harg4 arg5 harg5 arg6 harg6 arg7 harg7 arg8 harg8 arg9 harg9 arg10 harg10 hc0 hc1 x0 x1 x2 x3 x4 x5 x6 k0_hw1 k0_hw2 k0_hw3 k0_hw4 k0_hw5 k0_hw6 k0_hw7 k0_hw8 k0_hw9 k0_hw10 k0_hw11 k0_hw12 k0_hw13 k0_hw14 k0_hw15 k0_hw16
  frame_out
  rw [View.readCov_eq_canon']
  refine congrArg (fun z => k0_pay5 z _ _ _ _ _) (funext fun j => congrArg (View.canon _) (funext fun a => Fin.ext ?_))
  fin_cases a
  · show 0 + 1 * (j 0).val = (j 0).val
    omega
  · show 0 + 1 * (j 1).val = (j 1).val
    omega

/-- The first point starts the running product at zero. -/
theorem acc_A (hH : Hyps m) (c : Dev nD) (t : Fin cfg0.N) (h0 : t.val % 8 = 0) (h1 : ¬t.val % 8 = 7) :
    (outsAt0 m hH c t.val t.isLt).2.2
      = k0_pay5 (outsAt0 m hH c t.val t.isLt).2.1 (iblk m c 5 t) (iblk m c 3 t)
          (iblk m c 2 t) k0_pay10 (iblk m c 6 t) := by
  rw [outsAt0_A m hH c t h0 h1]
  dsimp only
  exact first_acc _ _ _ _ _ _ _ _ _ _ _ _ _ _ _ _ _ _ _ _ _ _ _ _ _ _ _ _ _ _ _ _ _ _ _ _ _ _ _ _ _ _ _ _ _ _ _

set_option maxHeartbeats 1000000 in
/-- The last point's sixteen stores, over any contents of the blocks it reads. -/
theorem last_out : ∀ c i arg1 harg1 arg2 harg2 arg3 harg3 arg4 harg4 arg5 harg5 arg6 harg6 arg7 harg7 arg8 harg8 arg9 harg9 arg10 harg10 hc0 hc1 x0 x1 x2 x3 x4 x5 x6 xo7 xs0 xs1 k0_hw17 k0_hw18 k0_hw19 k0_hw20 k0_hw21 k0_hw22 k0_hw23 k0_hw24 k0_hw25 k0_hw26 k0_hw27 k0_hw28 k0_hw29 k0_hw30 k0_hw31 k0_hw32,
    out0_C_7 (F := F) c i arg1 harg1 arg2 harg2 arg3 harg3 arg4 harg4 arg5 harg5 arg6 harg6 arg7 harg7 arg8 harg8 arg9 harg9 arg10 harg10 hc0 hc1 x0 x1 x2 x3 x4 x5 x6 xo7 xs0 xs1 k0_hw17 k0_hw18 k0_hw19 k0_hw20 k0_hw21 k0_hw22 k0_hw23 k0_hw24 k0_hw25 k0_hw26 k0_hw27 k0_hw28 k0_hw29 k0_hw30 k0_hw31 k0_hw32
      = (List.finRange 16).foldl (fun X p => addRow X (x0 (ix1 p)) (k0_pay5 xs0 x5 x3 x2 xs1 x6) p) xo7 := by
  intro c i arg1 harg1 arg2 harg2 arg3 harg3 arg4 harg4 arg5 harg5 arg6 harg6 arg7 harg7 arg8 harg8 arg9 harg9 arg10 harg10 hc0 hc1 x0 x1 x2 x3 x4 x5 x6 xo7 xs0 xs1 k0_hw17 k0_hw18 k0_hw19 k0_hw20 k0_hw21 k0_hw22 k0_hw23 k0_hw24 k0_hw25 k0_hw26 k0_hw27 k0_hw28 k0_hw29 k0_hw30 k0_hw31 k0_hw32
  generalize hY : k0_pay5 (F := F) _ _ _ _ _ _ = Y
  have hv : kernelRun0_C.sl.v25 c arg3 harg3 arg4 harg4 arg6 harg6 arg7 harg7 arg9 harg9 arg10 harg10 x2 x3 x5 x6 xs0 xs1 = Y := by
    rw [← hY]
    frame_out
  unfold out0_C_7 kernelRun0_C
  dsimp only
  change _ = addRow (addRow (addRow (addRow (addRow (addRow (addRow (addRow (addRow (addRow (addRow (addRow (addRow (addRow (addRow (addRow (xo7) (x0 (ix1 0)) Y 0) (x0 (ix1 1)) Y 1) (x0 (ix1 2)) Y 2) (x0 (ix1 3)) Y 3) (x0 (ix1 4)) Y 4) (x0 (ix1 5)) Y 5) (x0 (ix1 6)) Y 6) (x0 (ix1 7)) Y 7) (x0 (ix1 8)) Y 8) (x0 (ix1 9)) Y 9) (x0 (ix1 10)) Y 10) (x0 (ix1 11)) Y 11) (x0 (ix1 12)) Y 12) (x0 (ix1 13)) Y 13) (x0 (ix1 14)) Y 14) (x0 (ix1 15)) Y 15
  refine (store_row k0_pay8 (x0 (ix1 15)) Y 15 slices_S16x768_o15_0_S1x768 (fun _ _ => rfl) _ _ _ _ _ _ _
    (offset_eq _ _ (word_at _ _ _ 15 _ (by decide) _)) hv rfl).trans (congrArg (fun Z => addRow Z _ _ _) ?_)
  unfold kernelRun0_C.sl.H7_15
  refine (store_row k0_pay7 (x0 (ix1 14)) Y 14 slices_S16x768_o14_0_S1x768 (fun _ _ => rfl) _ _ _ _ _ _ _
    (offset_eq _ _ (word_at _ _ _ 14 _ (by decide) _)) hv rfl).trans (congrArg (fun Z => addRow Z _ _ _) ?_)
  unfold kernelRun0_C.sl.H7_14
  unfold kernelRun0_C.sl.r_14 kernelRun0_C.sl.r_15
  refine (store_row (fun y r => k0_pay6 (k0_pay37 r) (k0_pay38 y)) (x0 (ix1 13)) Y 13 slices_S16x768_o13_0_S1x768 (fun _ _ => rfl) _ _ _ _ _ _ _
    (offset_eq _ _ (word_at _ _ _ 13 _ (by decide) _)) hv rfl).trans (congrArg (fun Z => addRow Z _ _ _) ?_)
  unfold kernelRun0_C.sl.H7_13
  refine (store_row k0_pay36 (x0 (ix1 12)) Y 12 slices_S16x768_o12_0_S1x768 (fun _ _ => rfl) _ _ _ _ _ _ _
    (offset_eq _ _ (word_at _ _ _ 12 _ (by decide) _)) hv rfl).trans (congrArg (fun Z => addRow Z _ _ _) ?_)
  unfold kernelRun0_C.sl.H7_12
  refine (store_row k0_pay35 (x0 (ix1 11)) Y 11 slices_S16x768_o11_0_S1x768 (fun _ _ => rfl) _ _ _ _ _ _ _
    (offset_eq _ _ (word_at _ _ _ 11 _ (by decide) _)) hv rfl).trans (congrArg (fun Z => addRow Z _ _ _) ?_)
  unfold kernelRun0_C.sl.H7_11
  refine (store_row k0_pay34 (x0 (ix1 10)) Y 10 slices_S16x768_o10_0_S1x768 (fun _ _ => rfl) _ _ _ _ _ _ _
    (offset_eq _ _ (word_at _ _ _ 10 _ (by decide) _)) hv rfl).trans (congrArg (fun Z => addRow Z _ _ _) ?_)
  unfold kernelRun0_C.sl.H7_10
  refine (store_row k0_pay33 (x0 (ix1 9)) Y 9 slices_S16x768_o9_0_S1x768 (fun _ _ => rfl) _ _ _ _ _ _ _
    (offset_eq _ _ (word_at _ _ _ 9 _ (by decide) _)) hv rfl).trans (congrArg (fun Z => addRow Z _ _ _) ?_)
  unfold kernelRun0_C.sl.H7_9
  refine (store_row k0_pay32 (x0 (ix1 8)) Y 8 slices_S16x768_o8_0_S1x768 (fun _ _ => rfl) _ _ _ _ _ _ _
    (offset_eq _ _ (word_at _ _ _ 8 _ (by decide) _)) hv rfl).trans (congrArg (fun Z => addRow Z _ _ _) ?_)
  unfold kernelRun0_C.sl.H7_8
  refine (store_row k0_pay31 (x0 (ix1 7)) Y 7 slices_S16x768_o7_0_S1x768 (fun _ _ => rfl) _ _ _ _ _ _ _
    (offset_eq _ _ (word_at _ _ _ 7 _ (by decide) _)) hv rfl).trans (congrArg (fun Z => addRow Z _ _ _) ?_)
  unfold kernelRun0_C.sl.H7_7
  refine (store_row k0_pay30 (x0 (ix1 6)) Y 6 slices_S16x768_o6_0_S1x768 (fun _ _ => rfl) _ _ _ _ _ _ _
    (offset_eq _ _ (word_at _ _ _ 6 _ (by decide) _)) hv rfl).trans (congrArg (fun Z => addRow Z _ _ _) ?_)
  unfold kernelRun0_C.sl.H7_6
  refine (store_row k0_pay29 (x0 (ix1 5)) Y 5 slices_S16x768_o5_0_S1x768 (fun _ _ => rfl) _ _ _ _ _ _ _
    (offset_eq _ _ (word_at _ _ _ 5 _ (by decide) _)) hv rfl).trans (congrArg (fun Z => addRow Z _ _ _) ?_)
  unfold kernelRun0_C.sl.H7_5
  refine (store_row k0_pay28 (x0 (ix1 4)) Y 4 slices_S16x768_o4_0_S1x768 (fun _ _ => rfl) _ _ _ _ _ _ _
    (offset_eq _ _ (word_at _ _ _ 4 _ (by decide) _)) hv rfl).trans (congrArg (fun Z => addRow Z _ _ _) ?_)
  unfold kernelRun0_C.sl.H7_4
  refine (store_row k0_pay27 (x0 (ix1 3)) Y 3 slices_S16x768_o3_0_S1x768 (fun _ _ => rfl) _ _ _ _ _ _ _
    (offset_eq _ _ (word_at _ _ _ 3 _ (by decide) _)) hv rfl).trans (congrArg (fun Z => addRow Z _ _ _) ?_)
  unfold kernelRun0_C.sl.H7_3
  refine (store_row k0_pay26 (x0 (ix1 2)) Y 2 slices_S16x768_o2_0_S1x768 (fun _ _ => rfl) _ _ _ _ _ _ _
    (offset_eq _ _ (word_at _ _ _ 2 _ (by decide) _)) hv rfl).trans (congrArg (fun Z => addRow Z _ _ _) ?_)
  unfold kernelRun0_C.sl.H7_2
  refine (store_row k0_pay25 (x0 (ix1 1)) Y 1 slices_S16x768_o1_0_S1x768 (fun _ _ => rfl) _ _ _ _ _ _ _
    (offset_eq _ _ (word_at _ _ _ 1 _ (by decide) _)) hv rfl).trans (congrArg (fun Z => addRow Z _ _ _) ?_)
  unfold kernelRun0_C.sl.H7_1
  refine (store_row k0_pay24 (x0 (ix1 0)) Y 0 slices_S16x768_o0_0_S1x768 (fun _ _ => rfl) _ _ _ _ _ _ _
    (offset_eq _ _ (word_at _ _ _ 0 _ (by decide) _)) hv rfl).trans (congrArg (fun Z => addRow Z _ _ _) ?_)
  exact Memref.IsWhole.read_unread _ _

/-- The last point's sixteen stores: each adds a row of the finished product into the row its token word names. -/
theorem out_C (hH : Hyps m) (c : Dev nD) (t : Fin cfg0.N) (h0 : ¬ t.val % 8 = 0) (h1 : t.val % 8 = 7) :
    (outsAt0 m hH c t.val t.isLt).1
      = (List.finRange 16).foldl (fun X p => addRow X (iblk m c 0 t (ix1 p)) (outsAt0 m hH c t.val t.isLt).2.2 p)
        (outsAt0 m hH c (t.val - 1) (Nat.lt_of_le_of_lt (Nat.sub_le _ _) t.isLt)).1 := by
  rw [acc_C m hH c t h0 h1, outsAt0_C m hH c t h0 h1]
  dsimp only
  exact last_out _ _ _ _ _ _ _ _ _ _ _ _ _ _ _ _ _ _ _ _ _ _ _ _ _ _ _ _ _ _ _ _ _ _ _ _ _ _ _ _ _ _ _ _ _ _ _ _ _ _

end Cert.Moe

end
-- ==== Proof.Blocks.lean ====
/- Where each block the kernel reads lies in its array: the tokens, the rows of x and the output bias whole, the four
   other operands in chunks of 768 hidden units. -/
module

public import proofs.«01_k».proof.Proof.Points

@[expose] public section

noncomputable section

namespace Cert.Moe

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (c : Dev nD) (t : Fin cfg0.N)

/-- The windows' index maps at every grid point. -/
theorem idx : ∀ t : Fin cfg0.N, win0_0.index t = ![0] ∧ win0_1.index t = ![0, 0] ∧ win0_2.index t = ![0, t.val]
    ∧ win0_3.index t = ![0, t.val] ∧ win0_4.index t = ![0, 0] ∧ win0_5.index t = ![0, t.val]
    ∧ win0_6.index t = ![t.val, 0] ∧ win0_7.index t = ![0, 0] :=
  (by decide +kernel : ∀ t : Fin grid0.N, _)

/-- There are eight grid points. -/
theorem point_lt : t.val < 8 := lt_of_lt_of_eq t.isLt N_0

/-- The place of hidden unit `l` of chunk `t`. -/
def unitAt (l : Fin 768) : Fin 6144 := ⟨t.val * 768 + l.val, by have := point_lt t; omega⟩

/-- The block of tokens is the whole array of tokens. -/
theorem blk_tokens (i : Fin 16) : iblk m c 0 t (ix1 i) = V m c main_v28 (ix1 i) := by
  blk_ext [iblk, idx t]
/-- The block of rows is the whole array of rows. -/
theorem blk_x (i : Fin 2048) (k : Fin 768) : iblk m c 1 t (ix2 i k) = V m c main_v67 (ix2 i k) := by
  blk_ext [iblk, idx t]
/-- The block of routing weights is the chunk's columns. -/
theorem blk_weights (p : Fin 16) (l : Fin 768) :
    iblk m c 2 t (ix2 p l) = V m c main_v66 (ix2 p (unitAt t l)) := by
  blk_ext [iblk, idx t, unitAt]
/-- The block of the hidden bias is the chunk's columns. -/
theorem blk_b1 (l : Fin 768) : iblk m c 3 t (ix2 (0 : Fin 1) l) = V m c main_v68 (ix2 (0 : Fin 1) (unitAt t l)) := by
  blk_ext [iblk, idx t, unitAt]
/-- The block of the output bias is the whole row. -/
theorem blk_b2 (k : Fin 768) : iblk m c 4 t (ix2 (0 : Fin 1) k) = V m c main_v69 (ix2 (0 : Fin 1) k) := by
  blk_ext [iblk, idx t]
/-- The block of the first weight matrix is the chunk's columns. -/
theorem blk_w1 (k l : Fin 768) : iblk m c 5 t (ix2 k l) = V m c main_arg2 (ix2 k (unitAt t l)) := by
  blk_ext [iblk, idx t, unitAt]
/-- The block of the second weight matrix is the chunk's rows. -/
theorem blk_w2 (l k : Fin 768) : iblk m c 6 t (ix2 l k) = V m c main_arg4 (ix2 (unitAt t l) k) := by
  blk_ext [iblk, idx t, unitAt]

end Cert.Moe

end
-- ==== Proof.Array.lean ====
/- What the kernel's output array holds on the idealized machine: the output bias, plus for every selected pair whose token
   is the row, the pair's weighted hidden units against the second weight matrix. -/
module

public import proofs.«01_k».proof.Proof.Blocks
public import proofs.«01_k».proof.Proof.Tokens

@[expose] public section

set_option maxRecDepth 16384

noncomputable section

namespace Cert.Moe

open Cert.KernelIdeal Cert.KernelIdeal.Gen
open Idealize.ShloMosaic Idealize.ShloMosaic.TcCoe Idealize.SL.Sem

/-! ## The stored values at an index -/

/-- One chunk's step: the running product plus the chunk's weighted hidden units against the chunk of the second matrix. -/
theorem step_apply (x : FVec Ideal S16x768 .f32) (w1 : FVec Ideal S768x768 .f32) (b1 : FVec Ideal S1x768 .f32)
    (s a : FVec Ideal S16x768 .f32) (w2 : FVec Ideal S768x768 .f32) (p : Fin 16) (n : Fin 768) :
    k0_pay5 (F := Ideal) x w1 b1 s a w2 (ix2 p n)
      = a (ix2 p n) + ∑ l : Fin 768, max ((∑ k : Fin 768, x (ix2 p k) * w1 (ix2 k l)) + b1 (ix2 (0 : Fin 1) l)) 0
          * s (ix2 p l) * w2 (ix2 l n) := by
  pointwise [k0_pay5]

/-- The first store of the output block is the bias in every row. -/
theorem init_apply (b : FVec Ideal S1x768 .f32) (i : Fin 2048) (n : Fin 768) :
    k0_pay9 (F := Ideal) b (ix2 i n) = b (ix2 (0 : Fin 1) n) := by
  pointwise [k0_pay9]

/-- The running product starts at zero. -/
theorem zero_apply (p : Fin 16) (n : Fin 768) : k0_pay10 (F := Ideal) (ix2 p n) = (0 : EReal) := by
  pointwise [k0_pay10]

/-- One row added into another: the row it is addressed to receives it, the others are kept. -/
theorem addRow_apply (X : FVec Ideal S2048x768 .f32) (v : BitVec 32) (y : FVec Ideal S16x768 .f32) (p : Fin 16)
    (i : Fin 2048) (n : Fin 768) :
    (addRow (F := Ideal) X v y p (ix2 i n) : EReal)
      = X (ix2 i n) + (if i.val = v.toNat then (y (ix2 p n) : EReal) else 0) := by
  by_cases h : i.val = v.toNat
  · rw [if_pos h]; exact if_pos h
  · rw [if_neg h, add_zero]; exact if_neg h

/-- Adding rows one after another: each row receives the sum of the rows addressed to it. -/
theorem addRows_apply (v : Fin 16 → BitVec 32) (y : FVec Ideal S16x768 .f32) (i : Fin 2048) (n : Fin 768)
    (l : List (Fin 16)) : ∀ X : FVec Ideal S2048x768 .f32,
      ((l.foldl (fun X p => addRow (F := Ideal) X (v p) y p) X : FVec Ideal S2048x768 .f32) (ix2 i n) : EReal)
        = X (ix2 i n) + (l.map fun p => if i.val = (v p).toNat then (y (ix2 p n) : EReal) else 0).sum := by
  induction l with
  | nil => intro X; exact (add_zero _).symm
  | cons p l ih =>
    intro X
    rw [List.foldl_cons, ih, addRow_apply, List.map_cons, List.sum_cons, add_assoc]

/-! ## The quantities the array is made of -/

variable (m : (ℓ : Loc nD τ sig) → Buf (Elt Ideal) ℓ) (hH : Hyps m) (c : Dev nD)

/-- The token words. -/
def aTok : IVec S16 32 := V m c main_v28
/-- The rows of x. -/
def aX : FVec Ideal S2048x768 .f32 := V m c main_v67
/-- The routing weights. -/
def aS : FVec Ideal S16x6144 .f32 := V m c main_v66
/-- The hidden bias. -/
def aB1 : FVec Ideal S1x6144 .f32 := V m c main_v68
/-- The output bias. -/
def aB2 : FVec Ideal S1x768 .f32 := V m c main_v69
/-- The first weight matrix. -/
def aW1 : FVec Ideal S768x6144 .f32 := V m c main_arg2
/-- The second weight matrix. -/
def aW2 : FVec Ideal S6144x768 .f32 := V m c main_arg4

/-- The token words are below 2048. -/
theorem aTok_lt (i : S16.Idx) : (aTok m c i).toNat < 2048 := tokens_lt m c i

/-- The row of x at pair `p`'s token. -/
def xRow (p : Fin 16) (k : Fin 768) : EReal := aX m c (ix2 ⟨(aTok m c (ix1 p)).toNat, aTok_lt m c _⟩ k)
/-- Hidden unit `w` at pair `p`'s token. -/
def hidden (p : Fin 16) (w : Fin 6144) : EReal :=
  max ((∑ k : Fin 768, xRow m c p k * aW1 m c (ix2 k w)) + aB1 m c (ix2 (0 : Fin 1) w)) 0
/-- What hidden unit `w` adds to column `n` at pair `p`. -/
def term (p : Fin 16) (n : Fin 768) (w : Fin 6144) : EReal :=
  hidden m c p w * aS m c (ix2 p w) * aW2 m c (ix2 w n)

/-- The block of token words is below 2048 at every index, at the block's own shape. -/
theorem words_lt (t : Fin cfg0.N) (i : S16.Idx) : ((iblk m c 0 t : IVec S16 32) i).toNat < 2048 := block_lt m c t i

/-- Gathered rows at an index, for blocks that hold the arrays. -/
theorem gathered_of (v : IVec S16 32) (x : FVec Ideal S2048x768 .f32) (hv : ∀ i, (v i).toNat < 2048)
    (e0 : ∀ p : Fin 16, v (ix1 p) = aTok m c (ix1 p)) (e1 : ∀ i k, x (ix2 i k) = aX m c (ix2 i k))
    (p : Fin 16) (k : Fin 768) : gathered (F := Ideal) v x hv (ix2 p k) = xRow m c p k := by
  refine (e1 _ _).trans ?_
  refine congrArg (fun i => aX m c (ix2 i k)) (Fin.ext (congrArg BitVec.toNat (e0 p)))

/-- The gathered rows are the tokens' rows of x at every point. -/
theorem rows_all : ∀ (n : ℕ) (h : n < cfg0.N) (p : Fin 16) (k : Fin 768),
    ((outsAt0 m hH c n h).2.1 : FVec Ideal S16x768 .f32) (ix2 p k) = xRow m c p k
  | 0, h, p, k => by
    rw [rows_A m hH c ⟨0, h⟩ rfl (show ¬ (0 % 8 = 7) by decide) (words_lt m c _)]
    exact gathered_of m c _ _ _ (blk_tokens m c _) (blk_x m c _) p k
  | n + 1, h, p, k => by
    have hn : n + 1 < 8 := lt_of_lt_of_eq h N_0
    by_cases h7 : (n + 1) % 8 = 7
    · rw [rows_C m hH c ⟨n + 1, h⟩ (show ¬ (n + 1) % 8 = 0 by omega) h7]
      exact rows_all n _ p k
    · rw [rows_B m hH c ⟨n + 1, h⟩ (show ¬ (n + 1) % 8 = 0 by omega) h7]
      exact rows_all n _ p k

/-- One chunk's terms, summed. -/
def chunk (p : Fin 16) (n : Fin 768) (j : ℕ) : EReal :=
  if h : j < cfg0.N then ∑ l : Fin 768, term m c p n (unitAt ⟨j, h⟩ l) else 0

/-- One step of the running product over blocks that hold chunk `t` of the arrays. -/
theorem step_of (t : Fin cfg0.N) (x : FVec Ideal S16x768 .f32) (w1 : FVec Ideal S768x768 .f32)
    (b1 : FVec Ideal S1x768 .f32) (s a : FVec Ideal S16x768 .f32) (w2 : FVec Ideal S768x768 .f32)
    (hx : ∀ p k, x (ix2 p k) = xRow m c p k) (e5 : ∀ k l, w1 (ix2 k l) = aW1 m c (ix2 k (unitAt t l)))
    (e3 : ∀ l, b1 (ix2 (0 : Fin 1) l) = aB1 m c (ix2 (0 : Fin 1) (unitAt t l)))
    (e2 : ∀ p l, s (ix2 p l) = aS m c (ix2 p (unitAt t l)))
    (e6 : ∀ l k, w2 (ix2 l k) = aW2 m c (ix2 (unitAt t l) k)) (p : Fin 16) (n : Fin 768) :
    k0_pay5 (F := Ideal) x w1 b1 s a w2 (ix2 p n) = (a (ix2 p n) + chunk m c p n t.val : EReal) := by
  rw [step_apply]
  unfold chunk
  rw [dif_pos t.isLt]
  simp only [hx, e5, e3, e2, e6]
  rfl

/-- One step of the running product over the blocks of point `t`. -/
theorem step_blocks (t : Fin cfg0.N) (x a : FVec Ideal S16x768 .f32) (hx : ∀ p k, x (ix2 p k) = xRow m c p k)
    (p : Fin 16) (n : Fin 768) :
    k0_pay5 (F := Ideal) x (iblk m c 5 t) (iblk m c 3 t) (iblk m c 2 t) a (iblk m c 6 t) (ix2 p n)
      = (a (ix2 p n) + chunk m c p n t.val : EReal) :=
  step_of m c t _ _ _ _ _ _ hx (blk_w1 m c t) (blk_b1 m c t) (blk_weights m c t) (blk_w2 m c t) p n

/-- The running product after point `n`. -/
theorem acc_all : ∀ (n : ℕ) (h : n < cfg0.N) (p : Fin 16) (k : Fin 768),
    ((outsAt0 m hH c n h).2.2 : FVec Ideal S16x768 .f32) (ix2 p k) = ∑ j ∈ Finset.range (n + 1), chunk m c p k j
  | 0, h, p, k => by
    rw [acc_A m hH c ⟨0, h⟩ rfl (show ¬ (0 % 8 = 7) by decide)]
    refine (step_blocks m c ⟨0, h⟩ _ _ (rows_all m hH c 0 h) p k).trans ?_
    rw [zero_apply, Finset.sum_range_one, zero_add]
  | n + 1, h, p, k => by
    have hn : n + 1 < 8 := lt_of_lt_of_eq h N_0
    by_cases h7 : (n + 1) % 8 = 7
    · rw [acc_C m hH c ⟨n + 1, h⟩ (show ¬ (n + 1) % 8 = 0 by omega) h7]
      refine (step_blocks m c ⟨n + 1, h⟩ _ _ (rows_all m hH c n _) p k).trans ?_
      rw [Finset.sum_range_succ _ (n + 1)]
      exact congrArg (· + _) (acc_all n _ p k)
    · rw [acc_B m hH c ⟨n + 1, h⟩ (show ¬ (n + 1) % 8 = 0 by omega) h7]
      refine (step_blocks m c ⟨n + 1, h⟩ _ _ (rows_all m hH c n _) p k).trans ?_
      rw [Finset.sum_range_succ _ (n + 1)]
      exact congrArg (· + _) (acc_all n _ p k)

/-- Before the last point the output block is the bias in every row. -/
theorem out_before : ∀ (n : ℕ) (h : n < cfg0.N) (_ : n < 7) (i : Fin 2048) (k : Fin 768),
    ((outsAt0 m hH c n h).1 : FVec Ideal S2048x768 .f32) (ix2 i k)
      = aB2 m c (ix2 (0 : Fin 1) k)
  | 0, h, _, i, k => by
    rw [out_A m hH c ⟨0, h⟩ rfl (show ¬ (0 % 8 = 7) by decide)]
    exact (init_apply _ i k).trans (blk_b2 m c _ k)
  | n + 1, h, h7, i, k => by
    rw [out_B m hH c ⟨n + 1, h⟩ (show ¬ (n + 1) % 8 = 0 by omega) (show ¬ (n + 1) % 8 = 7 by omega)]
    exact out_before n _ (by omega) i k

/-- The eight chunks' sums are the sum over all hidden units. -/
theorem chunks_sum (p : Fin 16) (n : Fin 768) :
    ∑ j ∈ Finset.range 8, chunk m c p n j = ∑ w : Fin 6144, term m c p n w := by
  rw [Finset.sum_range]
  rw [← Fin.sum_mul_add_fin 8 768 (fun w : Fin 6144 => term m c p n w)]
  refine Finset.sum_congr rfl fun j _ => ?_
  unfold chunk
  rw [dif_pos (lt_of_lt_of_eq j.isLt N_0.symm)]
  rfl

/-- The output block after the last point. -/
theorem out_last (h : 7 < cfg0.N) (i : Fin 2048) (n : Fin 768) :
    ((outsAt0 m hH c 7 h).1 : FVec Ideal S2048x768 .f32) (ix2 i n)
      = aB2 m c (ix2 (0 : Fin 1) n)
        + ∑ p : Fin 16, if i.val = (aTok m c (ix1 p)).toNat then ∑ w : Fin 6144, term m c p n w else 0 := by
  rw [out_C m hH c ⟨7, h⟩ (show ¬ (7 % 8 = 0) by decide) rfl]
  refine (addRows_apply (fun p => iblk m c 0 ⟨7, h⟩ (ix1 p)) _ i n _ _).trans ?_
  refine congrArg₂ _ (out_before m hH c 6 _ (by decide) i n) ?_
  rw [← List.ofFn_eq_map, List.sum_ofFn]
  refine Finset.sum_congr rfl fun p _ => ?_
  have e0 : iblk m c 0 ⟨7, h⟩ (ix1 p) = aTok m c (ix1 p) := blk_tokens m c ⟨7, h⟩ p
  have ea := (acc_all m hH c 7 h p n).trans (chunks_sum m c p n)
  rw [← ea]
  exact if_congr (by rw [e0]) rfl rfl

/-- The output array after the run. -/
theorem array_apply (i : Fin 2048) (n : Fin 768) :
    ((dats m hH 0 c).arrAt 7 cfg0.N : FVec Ideal S2048x768 .f32) (ix2 i n)
      = aB2 m c (ix2 (0 : Fin 1) n)
        + ∑ p : Fin 16, if i.val = (aTok m c (ix1 p)).toNat then ∑ w : Fin 6144, term m c p n w else 0 := by
  have key : (dats m hH 0 c).arrAt 7 cfg0.N = (outsAt0 m hH c 7 (by decide)).1 := by
    refine (dats m hH 0 c).arrAt_eq_of_after_last 7 t0_7 (by decide +kernel) _ fun j => ?_
    blk_simp
    rw [after0_7]
    blk_ext [idx]
  rw [key]
  exact out_last m hH c _ i n

end Cert.Moe

end
-- ==== Proof.Soft.lean ====
/- The softmax stages at an index on the idealized machine. The softmax over the model dimension is one function of a column
   of logits, at the reference's whole array and at the kernel's selected columns alike. -/
module

public import proofs.«01_k».proof.Proof.HostStages
public import Idealize.ShloMosaic.Lib.Pipeline.ValueKit
public import Idealize.ShloMosaic.Lib.Pointwise
public import Idealize.ShloMosaic.Lib.IdealHost

@[expose] public section

noncomputable section

namespace Cert.Moe

open Cert.KernelIdeal Cert.KernelIdeal.Gen
open Idealize.ShloMosaic Idealize.ShloMosaic.TcCoe

/-- The greatest of a column of logits. -/
def colMax (f : Fin 768 → EReal) : EReal := max ⊥ (Finset.fold max ⊥ f Finset.univ)
/-- The exponential of a logit less its column's greatest. -/
def colExp (f : Fin 768 → EReal) (d : Fin 768) : EReal := Ideal.exp (f d - colMax f)
/-- The softmax of a column of logits. -/
def colSoft (f : Fin 768 → EReal) (d : Fin 768) : EReal := Ideal.div (colExp f d) (∑ x, colExp f x)

/-- A maximum over the model dimension, at a token and an expert. -/
theorem reduce_max_apply (z : FVec Ideal S1x2048x768x8 .f32) (i : Fin 2048) (e : Fin 8) :
    ((Host.reduce (FloatOps.maximumf (F := Ideal)) z (constant (F := Ideal) S_ .f32 0xFF800000#32)
        reducesTo_S1x2048x768x8_S1x2048x8_d2 h_S_ : FVec Ideal S1x2048x8 .f32) (ix3 (0 : Fin 1) i e) : EReal)
      = Finset.fold max ⊥ (fun x : Fin 768 => (z (ix4 (0 : Fin 1) i x e) : EReal)) Finset.univ := by
  pointwise []
  rfl

/-- Exponentials less a given maximum, at an index. -/
theorem exp_sub_apply (z : FVec Ideal S1x2048x768x8 .f32) (M : FVec Ideal S1x2048x8 .f32) (i : Fin 2048) (d : Fin 768)
    (e : Fin 8) :
    (Host.exp (subf z (broadcastInDim S1x2048x768x8 ![0, 1, 2, 3] bcast_S1x2048x1x8_S1x2048x768x8_0_1_2_3
      (broadcastInDim S1x2048x1x8 ![0, 1, 3] bcast_S1x2048x8_S1x2048x1x8_0_1_3
        (maximumf (broadcastInDim S1x2048x8 ![] bcast_S_S1x2048x8 (constant S_ .f32 0xFF800000#32)) M))))
      (ix4 (0 : Fin 1) i d e) : EReal)
      = Ideal.exp (z (ix4 (0 : Fin 1) i d e) - max ⊥ (M (ix3 (0 : Fin 1) i e))) := by
  pointwise []
  rfl

/-- Division by the sum over the model dimension, at an index. -/
theorem div_sum_apply (n : FVec Ideal S1x2048x768x8 .f32) (i : Fin 2048) (d : Fin 768) (e : Fin 8) :
    (Host.divf n (broadcastInDim S1x2048x768x8 ![0, 1, 2, 3] bcast_S1x2048x1x8_S1x2048x768x8_0_1_2_3
      (broadcastInDim S1x2048x1x8 ![0, 1, 3] bcast_S1x2048x8_S1x2048x1x8_0_1_3
        (Host.reduceAdd n (constant S_ .f32 0x00000000#32) reducesTo_S1x2048x768x8_S1x2048x8_d2 h_S_)))
      (ix4 (0 : Fin 1) i d e) : EReal)
      = Ideal.div (n (ix4 (0 : Fin 1) i d e)) (∑ x : Fin 768, n (ix4 (0 : Fin 1) i x e)) := by
  pointwise []

/-- The exponentials at an index. -/
theorem softNum_apply (z : FVec Ideal S1x2048x768x8 .f32) (i : Fin 2048) (d : Fin 768) (e : Fin 8) :
    (softNum z (ix4 (0 : Fin 1) i d e) : EReal) = colExp (fun x => z (ix4 (0 : Fin 1) i x e)) d :=
  (exp_sub_apply z _ i d e).trans (congrArg (fun M => Ideal.exp (z (ix4 (0 : Fin 1) i d e) - max ⊥ M)) (reduce_max_apply z i e))

/-- The softmax at an index is the softmax of the column through it. -/
theorem soft_apply (z : FVec Ideal S1x2048x768x8 .f32) (i : Fin 2048) (d : Fin 768) (e : Fin 8) :
    (soft z (ix4 (0 : Fin 1) i d e) : EReal) = colSoft (fun x => z (ix4 (0 : Fin 1) i x e)) d :=
  (div_sum_apply (softNum z) i d e).trans
    (congrArg₂ Ideal.div (softNum_apply z i d e) (Finset.sum_congr rfl fun x _ => softNum_apply z i x e))

/-- The exponentials of a row. -/
theorem rowNum_apply (v : FVec Ideal S16x768 .f32) (p : Fin 16) (d : Fin 768) :
    (rowNum v (ix2 p d) : EReal) = colExp (fun x => v (ix2 p x)) d := by
  pointwise [rowNum]
  rfl

/-- The softmax of a row. -/
theorem rowSoft_apply (v : FVec Ideal S16x768 .f32) (p : Fin 16) (d : Fin 768) :
    (rowSoft v (ix2 p d) : EReal) = colSoft (fun x => v (ix2 p x)) d := by
  have h : (rowSoft v (ix2 p d) : EReal) = Ideal.div (rowNum v (ix2 p d)) (∑ x : Fin 768, rowNum v (ix2 p x)) := by
    unfold rowSoft
    generalize rowNum v = n
    pointwise []
  rw [h]
  exact congrArg₂ Ideal.div (rowNum_apply v p d) (Finset.sum_congr rfl fun x _ => rowNum_apply v p x)

/-- The score of an expert at a token. -/
theorem scores_apply (p : FVec Ideal S1x2048x768x8 .f32) (e : Fin 8) (i : Fin 2048) :
    (scores p (ix3 (0 : Fin 1) e i) : EReal)
      = Ideal.div (∑ x : Fin 768, p (ix4 (0 : Fin 1) i x e)) (Ideal.ofBits .f32 0x44400000#32) := by
  pointwise [scores]

/-- The logit of a model dimension and an expert at a token. -/
theorem logits_apply (x : FVec Ideal S1x2048x768 .f32) (g : FVec Ideal S2048x16384 .f32) (i : Fin 2048) (d : Fin 768)
    (e : Fin 8) :
    (logits x g (ix4 (0 : Fin 1) i d e) : EReal)
      = ∑ k : Fin 2048, g (ix2 k ⟨i.val * 8 + e.val, by omega⟩) * x (ix3 (0 : Fin 1) k d) := by
  pointwise [logits]

end Cert.Moe

end
-- ==== Proof.Weights.lean ====
/- The kernel's routing weights and token words at an index: the softmax of the pair's own column of logits at the pair's
   token, at the hidden units of the pair's expert, and zero at the others. -/
module

public import proofs.«01_k».proof.Proof.Soft
public import proofs.«01_k».proof.Proof.Tokens
public import Idealize.ShloMosaic.Lib.Routing.OpsPair

@[expose] public section

noncomputable section

namespace Cert.Moe

open Cert.KernelIdeal Cert.KernelIdeal.Gen
open Idealize.ShloMosaic Idealize.ShloMosaic.TcCoe

/-- The expert of a pair. -/
theorem experts_apply (p : Fin 16) : experts (ix1 p) = BitVec.ofNat 32 (p.val / 2) := by
  pointwise [experts]

/-- The token of a pair: the best token of its expert at an even place, the second at an odd one. -/
theorem pairs_apply (i j : IVec S1x8 32) (p : Fin 16) :
    pairs i j (ix1 p) = if p.val % 2 < 1 then i (ix2 (0 : Fin 1) ⟨p.val / 2, by omega⟩)
      else j (ix2 (0 : Fin 1) ⟨p.val / 2, by omega⟩) := by
  pointwise [pairs]
  rfl

/-- The row selection reads the row its index word names. -/
theorem gather_rows {α : Type} (x : S2048x768x8.Idx → α) (t : IVec S16x1 32) (p : Fin 16) (d : Fin 768) (e : Fin 8)
    (h : (t (ix2 p (0 : Fin 1))).toNat < 2048) :
    Host.gather gather_S2048x768x8_S16x1_S16x768x8_12_0_n_n_0_1_17688 x t (ix3 p d e)
      = x (ix3 ⟨(t (ix2 p (0 : Fin 1))).toNat, h⟩ d e) := by
  unfold Host.gather
  refine congrArg x (funext fun a => Fin.ext ?_)
  show gather_S2048x768x8_S16x1_S16x768x8_12_0_n_n_0_1_17688.start (ix3 p d e) t a
    + gather_S2048x768x8_S16x1_S16x768x8_12_0_n_n_0_1_17688.batchCoord (ix3 p d e) a
    + gather_S2048x768x8_S16x1_S16x768x8_12_0_n_n_0_1_17688.offCoord (ix3 p d e) a = _
  match a with
  | ⟨0, _⟩ =>
    have hs : gather_S2048x768x8_S16x1_S16x768x8_12_0_n_n_0_1_17688.start (ix3 p d e) t 0
        = min (t (ix2 p (0 : Fin 1))).toInt.toNat 2047 := by
      unfold GatherDims.start
      rw [dif_pos (by decide)]
      refine congrArg (fun i => min (t i).toInt.toNat 2047) (funext fun b => ?_)
      fin_cases b <;> rfl
    refine (congrArg (· + 0 + 0) hs).trans ?_
    show min (t (ix2 p (0 : Fin 1))).toInt.toNat 2047 + 0 + 0 = (t (ix2 p (0 : Fin 1))).toNat
    rw [BitVec.toInt_eq_toNat_of_lt (by omega)]
    omega
  | ⟨1, _⟩ =>
    show 0 + 0 + d.val = d.val
    omega
  | ⟨2, _⟩ =>
    show 0 + 0 + e.val = e.val
    omega

/-- The selected rows at an index. -/
theorem rows_apply (z : FVec Ideal S1x2048x768x8 .f32) (t : IVec S16 32) (p : Fin 16) (d : Fin 768) (e : Fin 8)
    (h : (t (ix1 p)).toNat < 2048) :
    (rows z t (ix3 p d e) : EReal) = z (ix4 (0 : Fin 1) ⟨(t (ix1 p)).toNat, h⟩ d e) := by
  have ht : ∀ u : IVec S16 32, (broadcastInDim S16x1 ![0] bcast_S16_S16x1_0 u) (ix2 p (0 : Fin 1)) = u (ix1 p) := by
    intro u
    pointwise []
  have hw : (select (cmpi .slt t (broadcastInDim S16 ![] bcast_S_S16 (constantI S_ 32 0#32)))
        (addi t (broadcastInDim S16 ![] bcast_S_S16 (constantI S_ 32 2048#32))) t) (ix1 p) = t (ix1 p) := by
    pointwise []
    exact Routing.wrap_of_lt _ _ (by omega)
  unfold rows
  refine (gather_rows _ _ p d e (by rw [ht, hw]; exact h)).trans ?_
  simp only [ht, hw]
  generalize (⟨(t (ix1 p)).toNat, h⟩ : Fin 2048) = i
  pointwise []

/-- The column selection reads the column its index word names. -/
theorem gather_cols {α : Type} (x : S16x768x8.Idx → α) (t : IVec S16x1x1 32) (p : Fin 16) (d : Fin 768)
    (h : (t (ix3 p (0 : Fin 1) (0 : Fin 1))).toNat < 8) :
    Host.gather gather_S16x768x8_S16x1x1_S16x768x1_1_2_0_0_2_2_17681 x t (ix3 p d (0 : Fin 1))
      = x (ix3 p d ⟨(t (ix3 p (0 : Fin 1) (0 : Fin 1))).toNat, h⟩) := by
  unfold Host.gather
  refine congrArg x (funext fun a => Fin.ext ?_)
  show gather_S16x768x8_S16x1x1_S16x768x1_1_2_0_0_2_2_17681.start (ix3 p d (0 : Fin 1)) t a
    + gather_S16x768x8_S16x1x1_S16x768x1_1_2_0_0_2_2_17681.batchCoord (ix3 p d (0 : Fin 1)) a
    + gather_S16x768x8_S16x1x1_S16x768x1_1_2_0_0_2_2_17681.offCoord (ix3 p d (0 : Fin 1)) a = _
  match a with
  | ⟨0, _⟩ =>
    show 0 + p.val + 0 = p.val
    omega
  | ⟨1, _⟩ =>
    show 0 + 0 + d.val = d.val
    omega
  | ⟨2, _⟩ =>
    have hs : gather_S16x768x8_S16x1x1_S16x768x1_1_2_0_0_2_2_17681.start (ix3 p d (0 : Fin 1)) t 2
        = min (t (ix3 p (0 : Fin 1) (0 : Fin 1))).toInt.toNat 7 := by
      unfold GatherDims.start
      rw [dif_pos (by decide)]
      refine congrArg (fun i => min (t i).toInt.toNat 7) (funext fun b => ?_)
      fin_cases b <;> rfl
    refine (congrArg (· + 0 + 0) hs).trans ?_
    show min (t (ix3 p (0 : Fin 1) (0 : Fin 1))).toInt.toNat 7 + 0 + 0 = (t (ix3 p (0 : Fin 1) (0 : Fin 1))).toNat
    rw [BitVec.toInt_eq_toNat_of_lt (by omega)]
    omega

/-- The wrapped index words of the column selection are the words, when these are below 8. -/
theorem colIdx_apply (e : IVec S16x1x1 32) (p : Fin 16) (h : (e (ix3 p (0 : Fin 1) (0 : Fin 1))).toNat < 8) :
    colIdx e (ix3 p (0 : Fin 1) (0 : Fin 1)) = e (ix3 p (0 : Fin 1) (0 : Fin 1)) := by
  pointwise [colIdx]
  exact Routing.wrap_of_lt _ _ (by omega)

/-- A selected column at an index. -/
theorem cols_apply (r : FVec Ideal S16x768x8 .f32) (e : IVec S16x1x1 32) (p : Fin 16) (d : Fin 768)
    (h : (e (ix3 p (0 : Fin 1) (0 : Fin 1))).toNat < 8) :
    (cols r e (ix3 p d (0 : Fin 1)) : EReal) = r (ix3 p d ⟨(e (ix3 p (0 : Fin 1) (0 : Fin 1))).toNat, h⟩) := by
  have hc := colIdx_apply e p h
  unfold cols
  generalize hk : colIdx e = k at hc ⊢
  have hg := gather_cols r k p d (by rw [hc]; exact h)
  simp only [hc] at hg
  generalize Host.gather gather_S16x768x8_S16x1x1_S16x768x1_1_2_0_0_2_2_17681 r k = w at hg ⊢
  rw [← hg]
  pointwise []
  have hin : ∀ q : BitVec 32, q.toNat < 8 →
      IntOp.andi 1#1 (IntOp.andi (IntOp.cmpi .sge q 0#32) (IntOp.cmpi .sle q 7#32)) = 1#1 := by
    intro q hq
    obtain ⟨n, hn, rfl⟩ : ∃ n, n < 8 ∧ q = BitVec.ofNat 32 n := ⟨q.toNat, hq, (BitVec.ofNat_toNat 32 q).symm⟩
    interval_cases n <;> rfl
  have hf : Finset.fold IntOp.andi (1#1) (fun x : Fin 1 =>
      IntOp.andi (IntOp.cmpi .sge (k (ix3 p (0 : Fin 1) x)) 0#32) (IntOp.cmpi .sle (k (ix3 p (0 : Fin 1) x)) 7#32))
      Finset.univ = 1#1 := by
    rw [Finset.univ_unique, Finset.fold_singleton]
    have := hin _ h
    rw [← hc] at this
    rw [Std.Commutative.comm (op := IntOp.andi)]
    exact this
  rw [hf]
  rfl

/-- One at a pair's own expert, zero at the others. -/
theorem onehot_apply (t : IVec S16 32) (p : Fin 16) (e : Fin 8) :
    (onehot (F := Ideal) t (ix2 p e) : EReal) = if t (ix1 p) = BitVec.ofNat 32 e.val then 1 else 0 := by
  pointwise [onehot]
  by_cases h : t (ix1 p) = BitVec.ofNat 32 e.val
  · rw [if_pos h, h]
    show (((IntOp.cmpi CmpIPredicate.eq (BitVec.ofNat 32 e.val) (BitVec.ofNat 32 e.val)).toNat : ℝ) : EReal) = 1
    have : IntOp.cmpi CmpIPredicate.eq (BitVec.ofNat 32 e.val) (BitVec.ofNat 32 e.val) = 1#1 := by simp [IntOp.cmpi]
    rw [this]
    simp
  · rw [if_neg h]
    show (((IntOp.cmpi CmpIPredicate.eq (t (ix1 p)) (BitVec.ofNat 32 e.val)).toNat : ℝ) : EReal) = 0
    have hb : (t (ix1 p) == BitVec.ofNat 32 e.val) = false := beq_eq_false_iff_ne.2 h
    have : IntOp.cmpi CmpIPredicate.eq (t (ix1 p)) (BitVec.ofNat 32 e.val) = 0#1 := by
      simp only [IntOp.cmpi, hb]
      rfl
    rw [this]
    simp

/-- The routing weights of a pair. -/
theorem weights_apply (v : FVec Ideal S16x768x1 .f32) (t : IVec S16 32) (p : Fin 16) (w : Fin 6144) :
    (weights v t (ix2 p w) : EReal) = colSoft (fun x => v (ix3 p x (0 : Fin 1))) ⟨w.val / 8, by omega⟩
      * (if t (ix1 p) = BitVec.ofNat 32 (w.val % 8) then 1 else 0) := by
  have h : (weights v t (ix2 p w) : EReal)
      = rowSoft (shapeCast S16x768 v shapeCasts_S16x768x1_S16x768) (ix2 p ⟨w.val / 8, by omega⟩)
        * onehot t (ix2 p ⟨w.val % 8, by omega⟩) := by
    pointwise [weights]
  have hv : ∀ x : Fin 768, shapeCast S16x768 v shapeCasts_S16x768x1_S16x768 (ix2 p x) = v (ix3 p x (0 : Fin 1)) := by
    intro x
    pointwise []
  rw [h, rowSoft_apply, onehot_apply]
  simp only [hv]

end Cert.Moe

end
-- ==== Proof.Finite.lean ====
/- What finite arguments give. When every entry of x and of the gate is finite, every logit is a real number, every sum of
   exponentials is positive, and every score is nonnegative; so no score is minus infinity. -/
module

public import proofs.«01_k».proof.Pre_finite
public import proofs.«01_k».proof.Proof.Soft
public import Idealize.ShloMosaic.Lib.ReduceAll

@[expose] public section

noncomputable section

namespace Cert.Moe

open Idealize.ShloMosaic Idealize.ShloMosaic.TcCoe

/-- A real number among the extended reals. -/
def IsReal (a : EReal) : Prop := ∃ r : ℝ, a = (r : EReal)

/-- Products of reals are real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Finite sums of reals are real. -/
theorem IsReal.sum {ι : Type} (s : Finset ι) (f : ι → EReal) (h : ∀ i, IsReal (f i)) : IsReal (∑ i ∈ s, f i) := by
  choose r hr using h
  refine ⟨∑ i ∈ s, r i, ?_⟩
  induction s using Finset.cons_induction with
  | empty => simp
  | cons a s ha ih => rw [Finset.sum_cons, Finset.sum_cons, ih, hr a, EReal.coe_add]

/-- The precondition's comparison at one entry: an entry of absolute value below infinity is real. -/
theorem isReal_of_cmp (a : EReal)
    (h : (FloatOps.cmpf (F := Ideal) (φ := .f32) .olt (FloatOps.absf (F := Ideal) (φ := .f32) a) (Ideal.ofBits .f32 0x7F800000#32)) = 1#1) : IsReal a := by
  have ht : Ideal.ofBits .f32 0x7F800000#32 = (⊤ : EReal) := rfl
  rw [ht] at h
  have hlt : max a (-a) < (⊤ : EReal) := by
    by_contra hn
    have : (FloatOps.cmpf (F := Ideal) (φ := .f32) .olt (FloatOps.absf (F := Ideal) (φ := .f32) a) (⊤ : EReal)) = 0#1 := by
      show BitVec.ofBool (decide (max a (-a) < (⊤ : EReal))) = 0#1
      rw [decide_eq_false hn]; rfl
    rw [this] at h
    exact absurd h (by decide)
  obtain ⟨h1, h2⟩ := max_lt_iff.1 hlt
  induction a with
  | bot => exact absurd h2 (by simp)
  | top => exact absurd h1 (by simp)
  | coe r => exact ⟨r, rfl⟩

/-! ## The softmax of a real column -/

variable (f : Fin 768 → EReal) (hf : ∀ d, IsReal (f d))

include hf in
/-- The greatest of a real column is not plus infinity. -/
theorem colMax_lt : colMax f < ⊤ := by
  refine max_lt bot_lt_top ((Finset.fold_max_lt _).2 ⟨bot_lt_top, fun d _ => ?_⟩)
  obtain ⟨r, hr⟩ := hf d
  rw [hr]; exact EReal.coe_lt_top r

include hf in
/-- The exponentials of a real column are positive. -/
theorem colExp_pos (d : Fin 768) : 0 < colExp f d := by
  have hM := (colMax_lt f hf).ne
  obtain ⟨r, hr⟩ := hf d
  unfold colExp
  rw [hr]
  generalize colMax f = M at hM
  have hpos : ∀ y : EReal, y ≠ ⊥ → 0 < Ideal.exp y := by
    intro y hy
    induction y with
    | bot => exact absurd rfl hy
    | top => exact EReal.zero_lt_top
    | coe y => exact EReal.coe_pos.2 (Real.exp_pos y)
  apply hpos
  induction M with
  | bot => simp
  | top => exact absurd rfl hM
  | coe M => rw [← EReal.coe_sub]; exact EReal.coe_ne_bot _

/-- Dividing a nonnegative number by a positive one gives a nonnegative number. -/
theorem div_nonneg' (a b : EReal) (ha : 0 ≤ a) (hb : 0 < b) : 0 ≤ Ideal.div a b := by
  unfold Ideal.div
  rw [if_neg hb.ne']
  exact mul_nonneg ha (EReal.inv_nonneg_of_nonneg hb.le)

include hf in
/-- The softmax of a real column is nonnegative. -/
theorem colSoft_nonneg (d : Fin 768) : 0 ≤ colSoft f d := by
  refine div_nonneg' _ _ (colExp_pos f hf d).le ?_
  exact lt_of_lt_of_le (colExp_pos f hf 0)
    (Finset.single_le_sum (f := colExp f) (fun i _ => (colExp_pos f hf i).le) (Finset.mem_univ 0))

open Cert.KernelIdeal Cert.KernelIdeal.Gen in
/-- The scores of real logits are not minus infinity. -/
theorem scores_ne_bot (z : FVec Ideal S1x2048x768x8 .f32) (hz : ∀ i d e, IsReal (z (ix4 (0 : Fin 1) i d e)))
    (e : Fin 8) (i : Fin 2048) : (scores (soft z) (ix3 (0 : Fin 1) e i) : EReal) ≠ ⊥ := by
  rw [scores_apply]
  have h : (0 : EReal) ≤ Ideal.div (∑ x : Fin 768, soft z (ix4 (0 : Fin 1) i x e)) (Ideal.ofBits .f32 0x44400000#32) := by
    refine div_nonneg' _ _ (Finset.sum_nonneg fun d _ => ?_) ?_
    · rw [soft_apply]; exact colSoft_nonneg _ (fun x => hz i x e) d
    · have h768 : Ideal.ofBits .f32 0x44400000#32 = ((768 : ℝ) : EReal) := by
        simp [Ideal.ofBits, Ideal.ieee, -EReal.coe_mul]; norm_num
      rw [h768]
      exact EReal.coe_pos.2 (by norm_num)
  exact ne_of_gt (lt_of_lt_of_le EReal.bot_lt_zero h)

open Cert.KernelIdeal Cert.KernelIdeal.Gen in
/-- Finite tokens and gate give real logits. -/
theorem logits_real (x : FVec Ideal S1x2048x768 .f32) (g : FVec Ideal S2048x16384 .f32)
    (hx : ∀ k d, IsReal (x (ix3 (0 : Fin 1) k d))) (hg : ∀ k l, IsReal (g (ix2 k l))) (i : Fin 2048) (d : Fin 768)
    (e : Fin 8) : IsReal (logits x g (ix4 (0 : Fin 1) i d e)) := by
  rw [logits_apply]
  exact IsReal.sum _ _ fun k => (hg _ _).mul (hx _ _)

/-! ## The precondition -/

/-- The precondition's function has its side conditions. -/
theorem pre_facts : Cert.Pre_finite.Facts where
  bcast_S_S1x2048x768 := by decide
  reducesTo_S1x2048x768_S_d0_1_2 := by decide
  h_S_ := by decide
  bcast_S_S2048x16384 := by decide
  reducesTo_S2048x16384_S_d0_1 := by decide

attribute [local instance] pre_facts in
/-- The precondition says that the entries of x and of the gate are real. -/
theorem real_of_pre (x : FVec Ideal Pre_finite.S1x2048x768 .f32) (g : FVec Ideal Pre_finite.S2048x16384 .f32)
    (w1 : FVec Ideal Pre_finite.S768x6144 .f32) (b1 : FVec Ideal Pre_finite.S6144 .f32)
    (w2 : FVec Ideal Pre_finite.S6144x768 .f32) (b2 : FVec Ideal Pre_finite.S768 .f32)
    (h : Pre_finite.fn (F := Ideal) x g w1 b1 w2 b2 = fun _ => 1#1) :
    (∀ i, IsReal (x i)) ∧ (∀ i, IsReal (g i)) := by
  have h0 := congrFun h default
  obtain ⟨h1, h2⟩ := IntOp.andi_eq_one.1 h0
  have : Subsingleton Pre_finite.S_.Idx := ⟨fun a b => funext fun k => k.elim0⟩
  exact ⟨fun i => isReal_of_cmp _ (Host.reduce_andi_all _ _ _ _ _ h1 i),
    fun i => isReal_of_cmp _ (Host.reduce_andi_all _ _ _ _ _ h2 i)⟩

end Cert.Moe

end
-- ==== Proof.Best.lean ====
/- The arg-max on the idealized machine: the first of the greatest scores. -/
module

public import proofs.«01_k».proof.Proof.HostStages
public import Idealize.ShloMosaic.Lib.Pipeline.ValueKit
public import Idealize.ShloMosaic.Lib.Pointwise

@[expose] public section

noncomputable section

namespace Cert.Moe

open Cert.KernelIdeal Cert.KernelIdeal.Gen
open Idealize.ShloMosaic Idealize.ShloMosaic.TcCoe

/-- The arg-max's step on the idealized machine: the greater value, the smaller index of equal values. -/
theorem step_ideal (a b : EReal × BitVec 32) :
    reducer_argmax_f32_i32 (F := Ideal) a b
      = (if b.1 < a.1 then a.1 else b.1, if b.1 < a.1 ∨ a.1 = b.1 ∧ a.2.slt b.2 = true then a.2 else b.2) := by
  obtain ⟨av, ai⟩ := a
  obtain ⟨bv, bi⟩ := b
  unfold reducer_argmax_f32_i32
  simp only [Ideal.cmpf_def, Ideal.cmp, IntOp.ori, IntOp.andi, IntOp.cmpi, Scalar.select]
  by_cases h : bv < av
  · have ho : ∀ d : BitVec 1, 1#1 ||| d = 1#1 := by decide
    simp [h, ho]
  · by_cases e : av = bv
    · subst e
      by_cases q : ai.slt bi = true <;> simp [q]
    · simp [h, e]

/-- The fiber of the scores at an expert holds the pair of every token's score and number, and nothing else. -/
theorem mem_fiber (x : FVec Ideal S1x8x2048 .f32) (e : Fin 8) (q : EReal × BitVec 32) :
    q ∈ Host.argReduceFiber x (iotaInDim S1x8x2048 32 2) reducesTo_S1x8x2048_S1x8_d2 (ix2 (0 : Fin 1) e)
      ↔ ∃ k : Fin 2048, q = (x (ix3 (0 : Fin 1) e k), BitVec.ofNat 32 k.val) := by
  have hdrop : ∀ (a : Fin 1) (b : Fin 8) (k : Fin 2048),
      reducesTo_S1x8x2048_S1x8_d2.drop (ix3 a b k) = ix2 a b := by
    intro a b k; funext r; fin_cases r <;> rfl
  simp only [Host.argReduceFiber, List.mem_map, List.mem_filter, List.mem_finRange, true_and, decide_eq_true_eq]
  constructor
  · rintro ⟨n, hn, rfl⟩
    generalize S1x8x2048.rowMajor.symm n = i at hn
    obtain ⟨a, b, k, rfl⟩ : ∃ a b k, i = ix3 a b k := ⟨_, _, _, eq_ix3 i⟩
    rw [hdrop] at hn
    have hb : b = e := congrFun hn 1
    have ha : a = 0 := Subsingleton.elim _ _
    subst hb ha
    exact ⟨k, rfl⟩
  · rintro ⟨k, rfl⟩
    refine ⟨S1x8x2048.rowMajor (ix3 0 e k), ?_, ?_⟩ <;> rw [Equiv.symm_apply_apply]
    · exact hdrop 0 e k
    · rfl

/-- The fold of the arg-max over pairs of values and token numbers ends at the greatest value, and at the smallest of the
    numbers at it. -/
theorem fold_best (l : List (EReal × BitVec 32)) (P : EReal × BitVec 32 → Prop)
    (hl : ∀ q ∈ l, P q) (hP : ∀ q, P q → q.2.toNat < 2048) : ∀ a : EReal × BitVec 32, P a →
    P (l.foldl (reducer_argmax_f32_i32 (F := Ideal)) a) ∧
      ∀ q, q = a ∨ q ∈ l → q.1 < (l.foldl (reducer_argmax_f32_i32 (F := Ideal)) a).1
        ∨ q.1 = (l.foldl (reducer_argmax_f32_i32 (F := Ideal)) a).1
          ∧ (l.foldl (reducer_argmax_f32_i32 (F := Ideal)) a).2.toNat ≤ q.2.toNat := by
  induction l with
  | nil => intro a ha; exact ⟨ha, fun q hq => by rcases hq with rfl | hq; exact Or.inr ⟨rfl, le_refl _⟩; cases hq⟩
  | cons b l ih =>
    intro a ha
    have hb : P b := hl b List.mem_cons_self
    have hslt : a.2.slt b.2 = true ↔ a.2.toNat < b.2.toNat := by
      have h1 := hP a ha
      have h2 := hP b hb
      rw [BitVec.slt_eq_decide, decide_eq_true_eq, BitVec.toInt_eq_toNat_of_lt (by omega), BitVec.toInt_eq_toNat_of_lt (by omega)]
      omega
    have hs : (reducer_argmax_f32_i32 (F := Ideal) a b = a ∧ (b.1 < a.1 ∨ b.1 = a.1 ∧ a.2.toNat ≤ b.2.toNat))
        ∨ (reducer_argmax_f32_i32 (F := Ideal) a b = b ∧ (a.1 < b.1 ∨ a.1 = b.1 ∧ b.2.toNat ≤ a.2.toNat)) := by
      rw [step_ideal]
      rcases lt_trichotomy b.1 a.1 with h | h | h
      · left; simp only [h, if_true, true_or, true_and]
      · by_cases q : a.2.toNat < b.2.toNat
        · left
          rw [if_neg (by rw [h]; exact lt_irrefl _), if_pos (Or.inr ⟨h.symm, hslt.2 q⟩)]
          exact ⟨Prod.ext h rfl, Or.inr ⟨h, by omega⟩⟩
        · right
          rw [if_neg (by rw [h]; exact lt_irrefl _), if_neg (by rw [hslt, h]; simpa using q)]
          exact ⟨rfl, Or.inr ⟨h.symm, by omega⟩⟩
      · right
        rw [if_neg (not_lt.2 h.le), if_neg (by rintro (q | ⟨q, -⟩); exact absurd q (not_lt.2 h.le); exact absurd q (ne_of_lt h))]
        exact ⟨rfl, Or.inl h⟩
    rw [List.foldl_cons]
    have hstep : P (reducer_argmax_f32_i32 (F := Ideal) a b) := by rcases hs with ⟨e, _⟩ | ⟨e, _⟩ <;> rw [e] <;> assumption
    obtain ⟨r1, r2⟩ := ih (fun q hq => hl q (List.mem_cons_of_mem _ hq)) _ hstep
    refine ⟨r1, ?_⟩
    have top := r2 _ (Or.inl rfl)
    have trans' : ∀ q : EReal × BitVec 32,
        (q.1 < (reducer_argmax_f32_i32 (F := Ideal) a b).1 ∨ q.1 = (reducer_argmax_f32_i32 (F := Ideal) a b).1
          ∧ (reducer_argmax_f32_i32 (F := Ideal) a b).2.toNat ≤ q.2.toNat) →
        q.1 < (l.foldl (reducer_argmax_f32_i32 (F := Ideal)) (reducer_argmax_f32_i32 (F := Ideal) a b)).1
        ∨ q.1 = (l.foldl (reducer_argmax_f32_i32 (F := Ideal)) (reducer_argmax_f32_i32 (F := Ideal) a b)).1
          ∧ (l.foldl (reducer_argmax_f32_i32 (F := Ideal)) (reducer_argmax_f32_i32 (F := Ideal) a b)).2.toNat ≤ q.2.toNat := by
      intro q hq
      rcases hq with h | ⟨h, h'⟩ <;> rcases top with t | ⟨t, t'⟩
      · exact Or.inl (h.trans t)
      · exact Or.inl (t ▸ h)
      · exact Or.inl (h ▸ t)
      · exact Or.inr ⟨h.trans t, t'.trans h'⟩
    intro q hq
    rcases hq with rfl | hq
    · apply trans'
      rcases hs with ⟨e, h⟩ | ⟨e, h⟩ <;> rw [e]
      · exact Or.inr ⟨rfl, le_refl _⟩
      · exact h
    · rcases List.mem_cons.1 hq with rfl | hq
      · apply trans'
        rcases hs with ⟨e, h⟩ | ⟨e, h⟩ <;> rw [e]
        · exact h
        · exact Or.inr ⟨rfl, le_refl _⟩
      · exact r2 q (Or.inr hq)

/-- Every expert's best token is the first of those with the greatest score. -/
theorem best_spec (x : FVec Ideal S1x8x2048 .f32) (e : Fin 8) :
    ∃ i : Fin 2048, best x (ix2 (0 : Fin 1) e) = BitVec.ofNat 32 i.val ∧
      ∀ k : Fin 2048, (x (ix3 (0 : Fin 1) e k) : EReal) < x (ix3 (0 : Fin 1) e i)
        ∨ (x (ix3 (0 : Fin 1) e k) : EReal) = x (ix3 (0 : Fin 1) e i) ∧ i ≤ k := by
  have hb : best x (ix2 (0 : Fin 1) e)
      = ((Host.argReduceFiber x (iotaInDim S1x8x2048 32 2) reducesTo_S1x8x2048_S1x8_d2 (ix2 (0 : Fin 1) e)).foldl
        (reducer_argmax_f32_i32 (F := Ideal)) ((⊥ : EReal), 0#32)).2 := by
    unfold best
    rw [Ideal.argReduce_eq_reduce2, Host.reduce2_eq_foldl_fiber]
    congr 2
  have hN : ∀ k : Fin 2048, (BitVec.ofNat 32 k.val).toNat = k.val := fun k => by
    rw [BitVec.toNat_ofNat]; exact Nat.mod_eq_of_lt (by omega)
  obtain ⟨r1, r2⟩ := fold_best
    (Host.argReduceFiber x (iotaInDim S1x8x2048 32 2) reducesTo_S1x8x2048_S1x8_d2 (ix2 (0 : Fin 1) e))
    (fun q => q = ((⊥ : EReal), 0#32) ∨ ∃ k : Fin 2048, q = (x (ix3 (0 : Fin 1) e k), BitVec.ofNat 32 k.val))
    (fun q hq => Or.inr ((mem_fiber x e q).1 hq))
    (fun q hq => by rcases hq with rfl | ⟨k, rfl⟩; · decide
                    · show (BitVec.ofNat 32 k.val).toNat < 2048
                      rw [hN]; exact k.isLt)
    ((⊥ : EReal), 0#32) (Or.inl rfl)
  rw [hb]
  revert r1 r2
  generalize List.foldl _ _ _ = r
  intro r1 r2
  have hk := fun k : Fin 2048 => r2 (x (ix3 (0 : Fin 1) e k), BitVec.ofNat 32 k.val) (Or.inr ((mem_fiber x e _).2 ⟨k, rfl⟩))
  rcases r1 with rfl | ⟨i, rfl⟩
  · have hbot : ∀ k : Fin 2048, (x (ix3 (0 : Fin 1) e k) : EReal) = ⊥ := fun k => by
      rcases hk k with h | ⟨h, _⟩
      · exact absurd h not_lt_bot
      · exact h
    exact ⟨0, rfl, fun k => Or.inr ⟨(hbot k).trans (hbot 0).symm, Fin.zero_le _⟩⟩
  · refine ⟨i, rfl, fun k => ?_⟩
    rcases hk k with h | ⟨h, h'⟩
    · exact Or.inl h
    · refine Or.inr ⟨h, ?_⟩
      dsimp only at h'
      rw [hN, hN] at h'
      exact h'

end Cert.Moe

end
-- ==== Proof.RefStages.lean ====
/- The reference's result in stages: the scores are the kernel's own, the two best tokens of every expert are a top-k of
   them, the mask is scattered from those, and the output is the masked feed-forward layer. -/
module

public import proofs.«01_k».proof.Proof.Gen.ReferenceIdeal.Run
public import proofs.«01_k».proof.Proof.HostStages

@[expose] public section

noncomputable section

namespace Cert.MoeRef

open Cert.ReferenceIdeal Cert.ReferenceIdeal.Gen
open Idealize.ShloMosaic Idealize.ShloMosaic.TcCoe Idealize.ShloMosaic.StableHlo

variable {F : FTy → Type} [FloatOps F]

/-- The two best tokens of every expert. -/
def topIdx (s : FVec F S1x8x2048 .f32) : IVec S1x8x2 32 :=
  (Host.topK S1x8x2 2 (FloatOps.cmpfTotal .gt) s sliceFits_S1x8x2048_S1x8x2).2

/-- The batch index of every selected element, as an index column. -/
def batchCol : IVec S1x8x2x1 32 :=
  broadcastInDim S1x8x2x1 ![0, 1, 2] bcast_S1x8x2_S1x8x2x1_0_1_2 (broadcastInDim S1x8x2 ![0, 1, 2] bcast_S1x1x1_S1x8x2_0_1_2
    (select (cmpi .slt (broadcastInDim S1x1x1 ![0] bcast_S1_S1x1x1_0 (iotaInDim S1 32 0)) (broadcastInDim S1x1x1 ![] bcast_S_S1x1x1 (constantI S_ 32 0#32)))
      (addi (broadcastInDim S1x1x1 ![0] bcast_S1_S1x1x1_0 (iotaInDim S1 32 0)) (broadcastInDim S1x1x1 ![] bcast_S_S1x1x1 (constantI S_ 32 1#32)))
      (broadcastInDim S1x1x1 ![0] bcast_S1_S1x1x1_0 (iotaInDim S1 32 0))))

/-- The expert index of every selected element, as an index column. -/
def expertCol : IVec S1x8x2x1 32 :=
  broadcastInDim S1x8x2x1 ![0, 1, 2] bcast_S1x8x2_S1x8x2x1_0_1_2 (broadcastInDim S1x8x2 ![0, 1, 2] bcast_S1x8x1_S1x8x2_0_1_2
    (select (cmpi .slt (broadcastInDim S1x8x1 ![1] bcast_S8_S1x8x1_1 (iotaInDim S8 32 0)) (broadcastInDim S1x8x1 ![] bcast_S_S1x8x1 (constantI S_ 32 0#32)))
      (addi (broadcastInDim S1x8x1 ![1] bcast_S8_S1x8x1_1 (iotaInDim S8 32 0)) (broadcastInDim S1x8x1 ![] bcast_S_S1x8x1 (constantI S_ 32 8#32)))
      (broadcastInDim S1x8x1 ![1] bcast_S8_S1x8x1_1 (iotaInDim S8 32 0))))

/-- The token index of every selected element, as an index column. -/
def tokenCol (t : IVec S1x8x2 32) : IVec S1x8x2x1 32 :=
  broadcastInDim S1x8x2x1 ![0, 1, 2] bcast_S1x8x2_S1x8x2x1_0_1_2
    (select (cmpi .slt t (broadcastInDim S1x8x2 ![] bcast_S_S1x8x2 (constantI S_ 32 0#32)))
      (addi t (broadcastInDim S1x8x2 ![] bcast_S_S1x8x2 (constantI S_ 32 2048#32))) t)

/-- The index triples of the selected elements. -/
def triples (t : IVec S1x8x2 32) : IVec S1x8x2x3 32 :=
  concatenate S1x8x2x3 3 [⟨S1x8x2x1, batchCol⟩, ⟨S1x8x2x1, expertCol⟩, ⟨S1x8x2x1, tokenCol t⟩]
    concatenates_S1x8x2x1_S1x8x2x1_S1x8x2x1_S1x8x2x3_d3

/-- The routing mask by expert and token: one at the selected elements, zero elsewhere. -/
def maskOf (t : IVec S1x8x2 32) : FVec F S1x8x2048 .f32 :=
  Host.scatter scatter_S1x8x2048_S1x8x2x3_S1x8x2_n_012_012_3 (fun _ b => b)
    (broadcastInDim S1x8x2048 ![] bcast_S_S1x8x2048 (constant S_ .f32 0x00000000#32)) (triples t)
    (broadcastInDim S1x8x2 ![] bcast_S_S1x8x2 (constant S_ .f32 0x3F800000#32))

/-- The hidden units, rectified, by token, model dimension and expert. -/
def hiddenOf (x : FVec F S1x2048x768 .f32) (w1 : FVec F S768x6144 .f32) (b1 : FVec F S6144 .f32) :
    FVec F S1x2048x768x8 .f32 :=
  maximumf (shapeCast S1x2048x768x8 (addf (Host.dotGeneral dot_S1x2048x768_S768x6144_S1x2048x6144_2_0_01_1_n_n none x w1)
      (broadcastInDim S1x2048x6144 ![0, 1, 2] bcast_S1x1x6144_S1x2048x6144_0_1_2 (broadcastInDim S1x1x6144 ![2] bcast_S6144_S1x1x6144_2 b1)))
      shapeCasts_S1x2048x6144_S1x2048x768x8)
    (broadcastInDim S1x2048x768x8 ![] bcast_S_S1x2048x768x8 (constant S_ .f32 0x00000000#32))

/-- The output of the layer: the hidden units weighted by the softmax and the mask, against the second weight matrix. -/
def outOf (h p : FVec F S1x2048x768x8 .f32) (k : FVec F S1x8x2048 .f32) (w2 : FVec F S6144x768 .f32) (b2 : FVec F S768 .f32) :
    FVec F S2048x768 .f32 :=
  shapeCast S2048x768 (addf (Host.dotGeneral dot_S1x2048x6144_S6144x768_S1x2048x768_2_0_01_1_n_n none
      (shapeCast S1x2048x6144 (mulf (mulf h p) (broadcastInDim S1x2048x768x8 ![0, 1, 2, 3] bcast_S1x2048x1x8_S1x2048x768x8_0_1_2_3
        (broadcastInDim S1x2048x1x8 ![0, 1, 3] bcast_S1x2048x8_S1x2048x1x8_0_1_3
          (transpose S1x2048x8 [0, 2, 1] k transposes_S1x8x2048_S1x2048x8_0_2_1)))) shapeCasts_S1x2048x768x8_S1x2048x6144) w2)
      (broadcastInDim S1x2048x768 ![0, 1, 2] bcast_S1x1x768_S1x2048x768_0_1_2 (broadcastInDim S1x1x768 ![2] bcast_S768_S1x1x768_2 b2)))
    shapeCasts_S1x2048x768_S2048x768

/-- The reference's result in stages. -/
def refOf (x : FVec F S1x2048x768 .f32) (g : FVec F S2048x16384 .f32) (w1 : FVec F S768x6144 .f32) (b1 : FVec F S6144 .f32)
    (w2 : FVec F S6144x768 .f32) (b2 : FVec F S768 .f32) : FVec F S2048x768 .f32 :=
  outOf (hiddenOf x w1 b1) (Moe.soft (Moe.logits x g)) (maskOf (topIdx (Moe.scores (Moe.soft (Moe.logits x g))))) w2 b2

/-- The reference's result is the staged one at its arguments. -/
theorem result_eq (m : (ℓ : Loc nD τ sig) → Buf (Elt F) ℓ) (c : Dev nD) :
    Value.res_main_v62 m c = refOf (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold Value.res_main_v62 refOf outOf hiddenOf maskOf triples tokenCol expertCol batchCol topIdx Moe.scores Moe.soft Moe.softNum Moe.logits
  rfl

end Cert.MoeRef

end
-- ==== Proof.TopTwo.lean ====
/- The two best tokens of an expert on the idealized machine. When no score is minus infinity, the first arg-max and the
   arg-max of the scores with that token masked are two different tokens, and they are the two that the top-k returns. -/
module

public import proofs.«01_k».proof.Proof.Best
public import proofs.«01_k».proof.Proof.RefStages
public import Idealize.ShloMosaic.Lib.SortPrefix

@[expose] public section

noncomputable section

namespace Cert.Moe

open Cert.KernelIdeal Cert.KernelIdeal.Gen
open Idealize.ShloMosaic Idealize.ShloMosaic.TcCoe

/-- The masked scores at an index: minus infinity at the expert's given token, the score elsewhere. -/
theorem masked_apply (i : IVec S1x8 32) (s : FVec Ideal S1x8x2048 .f32) (e : Fin 8) (k : Fin 2048) :
    (masked i s (ix3 (0 : Fin 1) e k) : EReal)
      = if BitVec.ofNat 32 k.val = i (ix2 (0 : Fin 1) e) then ⊥ else s (ix3 (0 : Fin 1) e k) := by
  pointwise [masked]
  have hb : Ideal.ofBits .f32 4286578688#32 = ⊥ := rfl
  unfold Scalar.select IntOp.cmpi
  rw [hb]
  by_cases h : BitVec.ofNat 32 k.val = i (ix2 (0 : Fin 1) e)
  · rw [if_pos h, if_pos (by rw [h]; simp)]
  · rw [if_neg h, if_neg (by
      intro q
      have : (BitVec.ofNat 32 k.val == i (ix2 (0 : Fin 1) e)) = false := beq_eq_false_iff_ne.2 h
      simp only [this] at q
      exact absurd q (by decide))]

/-- A stable sort of the positions by a strict order of keys, greatest key first, is the sort by the key and then the
    position. -/
theorem sort_ties {n : ℕ} (f : Fin n → EReal) :
    sortPositions n (fun k k' => decide (f k' < f k))
      = sortPositions n (fun k k' => decide (f k' < f k) || (decide (f k = f k') && decide (k < k'))) := by
  have ins : ∀ (a : Fin n) (l : List (Fin n)), (∀ b ∈ l, a < b) →
      insertBefore (fun k k' => decide (f k' < f k)) a l
        = insertBefore (fun k k' => decide (f k' < f k) || (decide (f k = f k') && decide (k < k'))) a l := by
    intro a l
    induction l with
    | nil => intro _; rfl
    | cons b l ih =>
      intro h
      have hb : decide (b < a) = false := decide_eq_false (not_lt.2 (h b List.mem_cons_self).le)
      unfold insertBefore
      rw [ih fun b' hb' => h b' (List.mem_cons_of_mem _ hb')]
      simp only [hb, Bool.and_false, Bool.or_false]
  have srt : ∀ l : List (Fin n), l.Pairwise (· < ·) →
      stableSort (fun k k' => decide (f k' < f k)) l
        = stableSort (fun k k' => decide (f k' < f k) || (decide (f k = f k') && decide (k < k'))) l := by
    intro l
    induction l with
    | nil => intro _; rfl
    | cons a l ih =>
      intro h
      rw [List.pairwise_cons] at h
      unfold stableSort
      rw [ih h.2]
      exact ins a _ fun b hb => h.1 b ((perm_stableSort _ l).mem_iff.1 hb)
  exact srt _ (List.pairwise_lt_finRange n)

/-- The first two positions of a stable sort of the positions, greatest key first. -/
theorem first_two {n : ℕ} (f : Fin n → EReal) (hn : 2 ≤ n) (i j : Fin n) (hij : i ≠ j)
    (hi : ∀ k, f k < f i ∨ f k = f i ∧ i ≤ k) (hj : ∀ k, k ≠ i → f k < f j ∨ f k = f j ∧ j ≤ k) (q : Fin 2) :
    sortedFrom (fun k k' => decide (f k' < f k)) (q.castLE hn) = (![i, j] : Fin 2 → Fin n) q := by
  have hB : StrictTotalBefore fun k k' : Fin n =>
      (fun a b : EReal => decide (b < a)) (f k) (f k') || (decide (f k = f k') && decide (k < k')) :=
    StrictTotalBefore.of_key_then_position (fun a b : EReal => decide (b < a)) f (fun a => by simp)
      (fun a b c h1 h2 => by
        rw [decide_eq_true_eq] at *
        exact h2.trans h1)
      (fun a b => by
        rcases lt_trichotomy a b with h | h | h
        · exact Or.inr (Or.inr (by simpa using h))
        · exact Or.inr (Or.inl h)
        · exact Or.inl (by simpa using h))
  have hnot : ∀ a b : Fin n, (f a < f b ∨ f a = f b ∧ b ≤ a) →
      (decide (f b < f a) || (decide (f a = f b) && decide (a < b))) = false := by
    rintro a b (h | ⟨h, h'⟩)
    · simp [not_lt.2 h.le, h.ne]
    · simp [h, h']
  refine Eq.trans ?_ (hB.sortedFrom_eq_of_prefix hn ![i, j] ?_ ?_ ?_ q)
  · unfold sortedFrom
    rw [List.get_of_eq (sort_ties f)]
    rfl
  · intro a b hab
    fin_cases a <;> fin_cases b
    · rfl
    · exact absurd hab hij
    · exact absurd hab.symm hij
    · rfl
  · intro a b hab
    fin_cases a <;> fin_cases b
    · exact absurd hab (by decide)
    · exact hnot j i (hi j)
    · exact absurd hab (by decide)
    · exact absurd hab (by decide)
  · intro a p hp
    have hpi : p ≠ i := fun h => hp 0 h.symm
    fin_cases a
    · exact hnot p i (hi p)
    · exact hnot p j (hj p hpi)

/-- The top-k's index words at an expert are the first positions of the stable sort of its scores. -/
theorem topIdx_apply (s : FVec Ideal S1x8x2048 .f32) (e : Fin 8) (q : Fin 2) :
    MoeRef.topIdx s (ix3 (0 : Fin 1) e q)
      = BitVec.ofNat 32 (sortedFrom (n := 2048)
          (fun k k' => decide ((s (ix3 (0 : Fin 1) e k') : EReal) < s (ix3 (0 : Fin 1) e k))) (q.castLE (by decide))).val := by
  have hal : ∀ (q' k : Fin 2048), (Shape.Idx.along (s := S1x8x2048) (ix3 (0 : Fin 1) e q') 2 k) = ix3 (0 : Fin 1) e k := by
    intro q' k
    funext r
    fin_cases r <;> rfl
  unfold MoeRef.topIdx Host.topK Host.sort2
  simp only [show (2 : ℕ) < S1x8x2048.rank from by decide, dite_true]
  have hJ : ∀ v : S1x8x2048.Idx → BitVec 32,
      extractStridedSlice ReferenceIdeal.S1x8x2 (fun _ => 0) v ReferenceIdeal.Gen.sliceFits_S1x8x2048_S1x8x2 (ix3 (0 : Fin 1) e q)
        = v (ix3 (0 : Fin 1) e (q.castLE (by decide))) := by
    intro v
    unfold extractStridedSlice
    refine congrArg v (funext fun r => ?_)
    fin_cases r <;> exact Fin.ext (Nat.zero_add _)
  refine (hJ _).trans ?_
  generalize (q.castLE (by decide) : Fin 2048) = Q
  have hc : ∀ a b : EReal, (FloatOps.cmpfTotal (F := Ideal) (φ := .f32) CmpDirection.gt a b == 1#1) = decide (b < a) := by
    intro a b
    show (BitVec.ofBool (decide (b < a)) == 1#1) = _
    by_cases h : b < a <;> simp [h]
  have hf : (fun k k' : Fin 2048 => FloatOps.cmpfTotal (F := Ideal) (φ := .f32) CmpDirection.gt
        (s (Shape.Idx.along (s := S1x8x2048) (ix3 (0 : Fin 1) e Q) 2 k)) (s (Shape.Idx.along (s := S1x8x2048) (ix3 (0 : Fin 1) e Q) 2 k')) == 1#1)
      = fun k k' => decide ((s (ix3 (0 : Fin 1) e k') : EReal) < s (ix3 (0 : Fin 1) e k)) := by
    funext k k'
    rw [hal, hal]
    exact hc _ _
  have hs : ∀ B B' : Fin 2048 → Fin 2048 → Bool, B = B' →
      iotaInDim S1x8x2048 32 2 (Shape.Idx.along (s := S1x8x2048) (ix3 (0 : Fin 1) e Q) 2 (sortedFrom B Q))
        = BitVec.ofNat 32 (sortedFrom B' Q).val := by
    rintro B _ rfl
    have key : ∀ k : Fin 2048, iotaInDim S1x8x2048 32 2 (Shape.Idx.along (s := S1x8x2048) (ix3 (0 : Fin 1) e Q) 2 k)
        = BitVec.ofNat 32 k.val := fun k => by rw [hal]; rfl
    exact key (sortedFrom B Q)
  exact hs _ _ hf

/-- The two best tokens of an expert none of whose scores is minus infinity: two different tokens, the same by the two
    arg-maxes and by the top-k. -/
theorem two_best (s : FVec Ideal S1x8x2048 .f32) (e : Fin 8)
    (hs : ∀ k : Fin 2048, (s (ix3 (0 : Fin 1) e k) : EReal) ≠ ⊥) :
    ∃ i j : Fin 2048, i ≠ j ∧ best s (ix2 (0 : Fin 1) e) = BitVec.ofNat 32 i.val
      ∧ best (masked (best s) s) (ix2 (0 : Fin 1) e) = BitVec.ofNat 32 j.val
      ∧ MoeRef.topIdx s (ix3 (0 : Fin 1) e (0 : Fin 2)) = BitVec.ofNat 32 i.val
      ∧ MoeRef.topIdx s (ix3 (0 : Fin 1) e (1 : Fin 2)) = BitVec.ofNat 32 j.val := by
  obtain ⟨i, hi, hi'⟩ := best_spec s e
  obtain ⟨j, hj, hj'⟩ := best_spec (masked (best s) s) e
  have inj : ∀ k l : Fin 2048, BitVec.ofNat 32 k.val = BitVec.ofNat 32 l.val ↔ k = l := fun k l => by
    rw [← BitVec.toNat_inj, BitVec.toNat_ofNat, BitVec.toNat_ofNat, Nat.mod_eq_of_lt (by omega), Nat.mod_eq_of_lt (by omega), Fin.ext_iff]
  have hm : ∀ k : Fin 2048, (masked (best s) s (ix3 (0 : Fin 1) e k) : EReal)
      = if k = i then ⊥ else s (ix3 (0 : Fin 1) e k) := fun k => by
    rw [masked_apply, hi]
    exact if_congr (inj k i) rfl rfl
  simp only [hm] at hj'
  have hij : i ≠ j := by
    intro h
    subst h
    obtain ⟨k, hk⟩ : ∃ k : Fin 2048, k ≠ i := by
      by_cases h0 : i = 0
      · exact ⟨1, by rw [h0]; decide⟩
      · exact ⟨0, fun h => h0 h.symm⟩
    have h := hj' k
    rw [if_neg hk, if_pos rfl] at h
    rcases h with h | ⟨h, _⟩
    · exact not_lt_bot h
    · exact hs k h
  have hj'' : ∀ k, k ≠ i → (s (ix3 (0 : Fin 1) e k) : EReal) < s (ix3 (0 : Fin 1) e j)
      ∨ (s (ix3 (0 : Fin 1) e k) : EReal) = s (ix3 (0 : Fin 1) e j) ∧ j ≤ k := fun k hk => by
    have h := hj' k
    rwa [if_neg hk, if_neg hij.symm] at h
  have two := first_two (fun k : Fin 2048 => (s (ix3 (0 : Fin 1) e k) : EReal)) (by decide) i j hij hi' hj''
  refine ⟨i, j, hij, hi, hj, ?_, ?_⟩
  · rw [topIdx_apply]; exact congrArg (fun r : Fin 2048 => BitVec.ofNat 32 r.val) (two 0)
  · rw [topIdx_apply]; exact congrArg (fun r : Fin 2048 => BitVec.ofNat 32 r.val) (two 1)

end Cert.Moe

end
-- ==== Proof.RefMask.lean ====
/- The reference's routing mask at an index: one at a token that is one of the expert's two selected tokens, zero elsewhere. -/
module

public import proofs.«01_k».proof.Proof.RefStages
public import Idealize.ShloMosaic.Lib.Pipeline.ValueKit
public import Idealize.ShloMosaic.Lib.Pointwise
public import Idealize.ShloMosaic.Lib.Routing.OpsSet
public import Idealize.ShloMosaic.Lib.Routing.OpsPair
public import Idealize.ShloMosaic.Lib.IdealHost

@[expose] public section

noncomputable section

namespace Cert.MoeRef

open Cert.ReferenceIdeal Cert.ReferenceIdeal.Gen
open Idealize.ShloMosaic Idealize.ShloMosaic.TcCoe

/-- The first word of a selected element's index triple is the batch's, zero. -/
theorem triples_0 (t : IVec S1x8x2 32) (e : Fin 8) (q : Fin 2) :
    triples t (ix4 (0 : Fin 1) e q (0 : Fin 3)) = 0#32 := by
  pointwise [triples, batchCol]
  rfl
/-- The second word is the expert. -/
theorem triples_1 (t : IVec S1x8x2 32) (e : Fin 8) (q : Fin 2) :
    triples t (ix4 (0 : Fin 1) e q (1 : Fin 3)) = BitVec.ofNat 32 e.val := by
  pointwise [triples, expertCol]
  fin_cases e <;> rfl
/-- The third word is the token. -/
theorem triples_2 (t : IVec S1x8x2 32) (e : Fin 8) (q : Fin 2) (h : (t (ix3 (0 : Fin 1) e q)).toNat < 2048) :
    triples t (ix4 (0 : Fin 1) e q (2 : Fin 3)) = t (ix3 (0 : Fin 1) e q) := by
  pointwise [triples, tokenCol]
  exact Routing.wrap_of_lt _ _ (by omega)

/-- Where a selected element is scattered, word by word. -/
theorem start_eq (t : IVec S1x8x2x3 32) (e : Fin 8) (q : Fin 2) (r : Fin 3) :
    scatter_S1x8x2048_S1x8x2x3_S1x8x2_n_012_012_3.start (ix3 (0 : Fin 1) e q) t r
      + (scatter_S1x8x2048_S1x8x2x3_S1x8x2_n_012_012_3.window (ix3 (0 : Fin 1) e q) r : Int)
      = (t (ix4 (0 : Fin 1) e q r)).toInt := by
  have hw : scatter_S1x8x2048_S1x8x2x3_S1x8x2_n_012_012_3.window (ix3 (0 : Fin 1) e q) r = 0 := by
    fin_cases r <;> rfl
  rw [hw]
  refine (add_zero _).trans ?_
  unfold ScatterDims.start
  rw [dif_pos (by fin_cases r <;> decide)]
  refine congrArg (fun i => (t i).toInt) (funext fun a => ?_)
  fin_cases r <;> fin_cases a <;> rfl

/-- A selected element lands at its own expert and its own token. -/
theorem lands (t : IVec S1x8x2 32) (h : ∀ e q, (t (ix3 (0 : Fin 1) e q)).toNat < 2048) (e : Fin 8) (q : Fin 2)
    (e' : Fin 8) (k : Fin 2048) :
    scatter_S1x8x2048_S1x8x2x3_S1x8x2_n_012_012_3.resultIdx? (ix3 (0 : Fin 1) e q) (triples t) = some (ix3 (0 : Fin 1) e' k)
      ↔ e = e' ∧ (t (ix3 (0 : Fin 1) e q)).toNat = k.val := by
  rw [Routing.resultIdx?_eq_some]
  have h0 := start_eq (triples t) e q 0
  have h1 := start_eq (triples t) e q 1
  have h2 := start_eq (triples t) e q 2
  rw [triples_0] at h0
  rw [triples_1, BitVec.toInt_eq_toNat_of_lt (by rw [BitVec.toNat_ofNat]; have := e.isLt; omega), BitVec.toNat_ofNat,
    Nat.mod_eq_of_lt (by have := e.isLt; omega)] at h1
  rw [triples_2 t e q (h e q), BitVec.toInt_eq_toNat_of_lt (by have := h e q; omega)] at h2
  constructor
  · intro H
    have a1 : _ = ((e'.val : ℕ) : Int) := H 1
    have a2 : _ = ((k.val : ℕ) : Int) := H 2
    rw [h1] at a1
    rw [h2] at a2
    exact ⟨Fin.ext (by exact_mod_cast a1), by exact_mod_cast a2⟩
  · rintro ⟨rfl, hk⟩ a
    match a with
    | ⟨0, _⟩ => exact h0
    | ⟨1, _⟩ => exact h1
    | ⟨2, _⟩ => exact h2.trans (by exact_mod_cast hk)

/-- The mask at an expert and a token: one at a selected token, zero elsewhere. -/
theorem mask_apply (t : IVec S1x8x2 32) (h : ∀ e q, (t (ix3 (0 : Fin 1) e q)).toNat < 2048) (e : Fin 8) (k : Fin 2048) :
    (maskOf (F := Ideal) t (ix3 (0 : Fin 1) e k) : EReal)
      = if ∃ q : Fin 2, (t (ix3 (0 : Fin 1) e q)).toNat = k.val then 1 else 0 := by
  have one : Ideal.ofBits .f32 0x3F800000#32 = (1 : EReal) := Ideal.ofBits_one_f32
  have zero : Ideal.ofBits .f32 0x00000000#32 = (0 : EReal) := Ideal.ofBits_zero_f32
  unfold maskOf
  by_cases hq : ∃ q : Fin 2, (t (ix3 (0 : Fin 1) e q)).toNat = k.val
  · rw [if_pos hq]
    obtain ⟨q, hq⟩ := hq
    exact Routing.scatter_set_hit _ _ _ _ _ (1 : EReal) (fun _ _ => one) (ix3 (0 : Fin 1) e q) ((lands t h e q e k).2 ⟨rfl, hq⟩)
  · rw [if_neg hq]
    refine (Routing.scatter_set_miss _ _ _ _ _ fun i hi => ?_).trans zero
    obtain ⟨a, e', q, rfl⟩ : ∃ a e' q, i = ix3 a e' q := ⟨_, _, _, eq_ix3 i⟩
    obtain rfl : a = 0 := Subsingleton.elim _ _
    obtain ⟨rfl, hk⟩ := (lands t h e' q e k).1 hi
    exact hq ⟨q, hk⟩

/-! ## The layer at an index -/

/-- Hidden unit `w` at a token, rectified: its place by model dimension and expert is `w / 8`, `w % 8`. -/
theorem hidden_apply (x : FVec Ideal S1x2048x768 .f32) (w1 : FVec Ideal S768x6144 .f32) (b1 : FVec Ideal S6144 .f32)
    (i : Fin 2048) (d : Fin 768) (e : Fin 8) :
    (hiddenOf x w1 b1 (ix4 (0 : Fin 1) i d e) : EReal)
      = max ((∑ k : Fin 768, x (ix3 (0 : Fin 1) i k) * w1 (ix2 k ⟨d.val * 8 + e.val, by omega⟩))
          + b1 (ix1 ⟨d.val * 8 + e.val, by omega⟩)) 0 := by
  pointwise [hiddenOf]

/-- The layer's output at a token and a column. -/
theorem out_apply (h p : FVec Ideal S1x2048x768x8 .f32) (k : FVec Ideal S1x8x2048 .f32) (w2 : FVec Ideal S6144x768 .f32)
    (b2 : FVec Ideal S768 .f32) (i : Fin 2048) (n : Fin 768) :
    (outOf h p k w2 b2 (ix2 i n) : EReal)
      = (∑ w : Fin 6144, h (ix4 (0 : Fin 1) i ⟨w.val / 8, by omega⟩ ⟨w.val % 8, by omega⟩)
          * p (ix4 (0 : Fin 1) i ⟨w.val / 8, by omega⟩ ⟨w.val % 8, by omega⟩)
          * k (ix3 (0 : Fin 1) ⟨w.val % 8, by omega⟩ i) * w2 (ix2 w n)) + b2 (ix1 n) := by
  pointwise [outOf]

end Cert.MoeRef

end
-- ==== Proof.Equation.lean ====
/- The equation: on real tokens and a real gate, the kernel's output array is the reference's result. The kernel sums the
   pairs' weighted hidden units; a hidden unit has a weight at the two pairs of its own expert alone, whose tokens are
   different, so each row receives each hidden unit once where the mask is one and not at all where it is zero. -/
module

public import proofs.«01_k».proof.Proof.Array
public import proofs.«01_k».proof.Proof.Weights
public import proofs.«01_k».proof.Proof.Finite
public import proofs.«01_k».proof.Proof.TopTwo
public import proofs.«01_k».proof.Proof.RefMask

@[expose] public section

noncomputable section

namespace Cert.Moe

open Cert.KernelIdeal Cert.KernelIdeal.Gen
open Idealize.ShloMosaic Idealize.ShloMosaic.TcCoe

/-! ## The sum over the pairs -/

/-- The first pair of an expert. -/
def pairA (e : Fin 8) : Fin 16 := ⟨2 * e.val, by omega⟩
/-- The second pair of an expert. -/
def pairB (e : Fin 8) : Fin 16 := ⟨2 * e.val + 1, by omega⟩

/-- A sum over the pairs whose terms vanish off one expert is the sum over this expert's two pairs. -/
theorem sum_pairs (g : Fin 16 → EReal) (e : Fin 8) (h : ∀ p : Fin 16, p.val / 2 ≠ e.val → g p = 0) :
    ∑ p, g p = g (pairA e) + g (pairB e) := by
  refine Fintype.sum_eq_add _ _ (fun q => ?_) fun p hp => h p fun q => ?_
  · have : 2 * e.val = 2 * e.val + 1 := congrArg Fin.val q
    omega
  · have h1 : p.val ≠ 2 * e.val := fun r => hp.1 (Fin.ext r)
    have h2 : p.val ≠ 2 * e.val + 1 := fun r => hp.2 (Fin.ext r)
    omega

/-- The equation at a row and a column, over the hidden units `H`, the softmax `P`, the second weights `W`, the pairs' tokens
    `tok` and the experts' two tokens `a`, `b`. -/
theorem sum_eq (H W : Fin 6144 → EReal) (P : Fin 6144 → ℕ → EReal) (tok : Fin 16 → ℕ) (a b : Fin 8 → ℕ)
    (hab : ∀ e, a e ≠ b e) (ha : ∀ e, tok (pairA e) = a e) (hb : ∀ e, tok (pairB e) = b e) (i : ℕ) :
    (∑ p : Fin 16, if i = tok p then ∑ w, H w * (P w (p.val / 2) * (if p.val / 2 = w.val % 8 then 1 else 0)) * W w else 0)
      = ∑ w, H w * P w (w.val % 8) * (if a ⟨w.val % 8, by omega⟩ = i ∨ b ⟨w.val % 8, by omega⟩ = i then 1 else 0) * W w := by
  have h1 : ∀ p : Fin 16, (if i = tok p then ∑ w, H w * (P w (p.val / 2) * (if p.val / 2 = w.val % 8 then 1 else 0)) * W w else 0)
      = ∑ w, if i = tok p then H w * (P w (p.val / 2) * (if p.val / 2 = w.val % 8 then 1 else 0)) * W w else 0 := by
    intro p
    split
    · rfl
    · exact Finset.sum_const_zero.symm
  rw [Finset.sum_congr rfl fun p _ => h1 p, Finset.sum_comm]
  refine Finset.sum_congr rfl fun w _ => ?_
  generalize he : (⟨w.val % 8, by omega⟩ : Fin 8) = e
  have hv : w.val % 8 = e.val := congrArg Fin.val he
  rw [hv, sum_pairs _ e]
  · rw [ha, hb]
    have dA : (pairA e).val / 2 = e.val := by show 2 * e.val / 2 = e.val; omega
    have dB : (pairB e).val / 2 = e.val := by show (2 * e.val + 1) / 2 = e.val; omega
    rw [dA, dB, if_pos rfl, mul_one]
    by_cases hA : i = a e
    · have hB : ¬ i = b e := fun h => hab e (hA.symm.trans h)
      rw [if_pos hA, if_neg hB, if_pos (Or.inl hA.symm), mul_one, add_zero]
    · by_cases hB : i = b e
      · rw [if_neg hA, if_pos hB, if_pos (Or.inr hB.symm), mul_one, zero_add]
      · rw [if_neg hA, if_neg hB, if_neg (by rintro (h | h); exacts [hA h.symm, hB h.symm]), mul_zero, zero_mul, add_zero]
  · intro p hp
    rw [if_neg hp, mul_zero, mul_zero, zero_mul, ite_self]

/-! ## The kernel's arrays in terms of its arguments -/

variable (m : (ℓ : Loc nD τ sig) → Buf (Elt Ideal) ℓ) (hH : Hyps m) (c : Dev nD)

/-- The tokens' features, the argument. -/
def argX : FVec Ideal S1x2048x768 .f32 := m (c, Proc.devRef .tc main_arg0)
/-- The gate's weights, the argument. -/
def argG : FVec Ideal S2048x16384 .f32 := m (c, Proc.devRef .tc main_arg1)
/-- The first weight matrix, the argument. -/
def argW1 : FVec Ideal S768x6144 .f32 := m (c, Proc.devRef .tc main_arg2)
/-- The hidden bias, the argument. -/
def argB1 : FVec Ideal S6144 .f32 := m (c, Proc.devRef .tc main_arg3)
/-- The second weight matrix, the argument. -/
def argW2 : FVec Ideal S6144x768 .f32 := m (c, Proc.devRef .tc main_arg4)
/-- The output bias, the argument. -/
def argB2 : FVec Ideal S768 .f32 := m (c, Proc.devRef .tc main_arg5)

/-- The kernel's rows are the argument's. -/
theorem aX_apply (i : Fin 2048) (k : Fin 768) : aX m c (ix2 i k) = argX m c (ix3 (0 : Fin 1) i k) := by
  have h : aX m c = shapeCast S2048x768 (argX m c) shapeCasts_S1x2048x768_S2048x768 := V_x m c
  rw [h]
  generalize argX m c = x
  pointwise []
/-- The kernel's hidden bias is the argument's. -/
theorem aB1_apply (w : Fin 6144) : aB1 m c (ix2 (0 : Fin 1) w) = argB1 m c (ix1 w) := by
  have h : aB1 m c = shapeCast S1x6144 (argB1 m c) shapeCasts_S6144_S1x6144 := V_b1 m c
  rw [h]
  generalize argB1 m c = x
  pointwise []
/-- The kernel's output bias is the argument's. -/
theorem aB2_apply (n : Fin 768) : aB2 m c (ix2 (0 : Fin 1) n) = argB2 m c (ix1 n) := by
  have h : aB2 m c = shapeCast S1x768 (argB2 m c) shapeCasts_S768_S1x768 := V_b2 m c
  rw [h]
  generalize argB2 m c = x
  pointwise []
/-- The kernel's first weight matrix is the argument. -/
theorem aW1_eq : aW1 m c = argW1 m c := V_main_arg2 m c
/-- The kernel's second weight matrix is the argument. -/
theorem aW2_eq : aW2 m c = argW2 m c := V_main_arg4 m c

/-- The logits of the launch's arguments. -/
theorem zOf_eq : zOf m c = logits (argX m c) (argG m c) := rfl

/-- A pair's weight at a hidden unit: the softmax at the pair's token and expert where the unit is the expert's, else zero. -/
theorem aS_apply (p : Fin 16) (w : Fin 6144) :
    aS m c (ix2 p w)
      = soft (zOf m c) (ix4 (0 : Fin 1) ⟨(aTok m c (ix1 p)).toNat, aTok_lt m c _⟩ ⟨w.val / 8, by omega⟩ ⟨p.val / 2, by omega⟩)
        * (if p.val / 2 = w.val % 8 then 1 else 0) := by
  have ht : aTok m c = pairs (i1Of m c) (i2Of m c) := V_tokens m c
  have hs : aS m c = weights (cols (rows (zOf m c) (pairs (i1Of m c) (i2Of m c)))
      (broadcastInDim S16x1x1 ![0] bcast_S16_S16x1x1_0 experts)) experts := V_weights m c
  have he : ∀ u : IVec S16 32, (broadcastInDim S16x1x1 ![0] bcast_S16_S16x1x1_0 u) (ix3 p (0 : Fin 1) (0 : Fin 1)) = u (ix1 p) := by
    intro u
    pointwise []
  have hn : (BitVec.ofNat 32 (p.val / 2)).toNat = p.val / 2 := by
    rw [BitVec.toNat_ofNat]; exact Nat.mod_eq_of_lt (by omega)
  have hl := aTok_lt m c (ix1 p)
  rw [hs, weights_apply, soft_apply, ← ht, experts_apply]
  refine congrArg₂ _ (congrArg (fun f => colSoft f _) (funext fun d => ?_)) (if_congr ?_ rfl rfl)
  · rw [cols_apply _ _ p d (by rw [he, experts_apply, hn]; omega), rows_apply _ _ _ _ _ hl]
    refine congrArg (fun e => zOf m c (ix4 (0 : Fin 1) _ d e)) (Fin.ext ?_)
    show (broadcastInDim S16x1x1 ![0] bcast_S16_S16x1x1_0 experts (ix3 p (0 : Fin 1) (0 : Fin 1))).toNat = p.val / 2
    rw [he, experts_apply, hn]
  · constructor
    · intro h
      have := congrArg BitVec.toNat h
      rw [hn, BitVec.toNat_ofNat, Nat.mod_eq_of_lt (by omega)] at this
      exact this
    · intro h; rw [h]

/-- A hidden unit at a pair's token is the reference's hidden unit at that token. -/
theorem hidden_eq (p : Fin 16) (w : Fin 6144) (i : Fin 2048) (h : i.val = (aTok m c (ix1 p)).toNat) :
    hidden m c p w = MoeRef.hiddenOf (argX m c) (argW1 m c) (argB1 m c)
      (ix4 (0 : Fin 1) i ⟨w.val / 8, by omega⟩ ⟨w.val % 8, by omega⟩) := by
  have hw : (⟨w.val / 8 * 8 + w.val % 8, by omega⟩ : Fin 6144) = w := Fin.ext (by show w.val / 8 * 8 + w.val % 8 = w.val; omega)
  have hi : (⟨(aTok m c (ix1 p)).toNat, aTok_lt m c _⟩ : Fin 2048) = i := Fin.ext h.symm
  rw [MoeRef.hidden_apply]
  unfold hidden xRow
  simp only [hw, hi, aW1_eq, aB1_apply, aX_apply]

/-- The kernel's output array is the reference's result, for real tokens and gate. -/
theorem array_eq (hx : ∀ i, IsReal (argX m c i)) (hg : ∀ i, IsReal (argG m c i)) :
    ((dats m hH 0 c).arrAt 7 cfg0.N : FVec Ideal S2048x768 .f32)
      = MoeRef.refOf (argX m c) (argG m c) (argW1 m c) (argB1 m c) (argW2 m c) (argB2 m c) := by
  funext j
  obtain ⟨i, n, rfl⟩ : ∃ i n, j = ix2 i n := ⟨_, _, eq_ix2 j⟩
  rw [array_apply]
  have hs : ∀ e k, (scores (soft (zOf m c)) (ix3 (0 : Fin 1) e k) : EReal) ≠ ⊥ := fun e k =>
    scores_ne_bot _ (fun i d e => logits_real _ _ (fun _ _ => hx _) (fun _ _ => hg _) i d e) e k
  choose a b hab h1 h2 h3 h4 using fun e => two_best (scores (soft (zOf m c))) e (hs e)
  have hto : ∀ k : Fin 2048, (BitVec.ofNat 32 k.val).toNat = k.val := by
    intro k
    rw [BitVec.toNat_ofNat]; exact Nat.mod_eq_of_lt (by omega)
  have htop : ∀ e (q : Fin 2), (MoeRef.topIdx (scores (soft (zOf m c))) (ix3 (0 : Fin 1) e q)).toNat
      = if q = 0 then (a e).val else (b e).val := by
    intro e q
    fin_cases q
    · exact (congrArg BitVec.toNat (h3 e)).trans (hto _)
    · exact (congrArg BitVec.toNat (h4 e)).trans (hto _)
  have ht : aTok m c = pairs (i1Of m c) (i2Of m c) := V_tokens m c
  have htA : ∀ e, (aTok m c (ix1 (pairA e))).toNat = (a e).val := by
    intro e
    rw [ht, pairs_apply, if_pos (by show 2 * e.val % 2 < 1; omega)]
    have he : (⟨(pairA e).val / 2, by have := (pairA e).isLt; omega⟩ : Fin 8) = e :=
      Fin.ext (by show 2 * e.val / 2 = e.val; omega)
    rw [he]
    exact (congrArg BitVec.toNat (h1 e)).trans (hto _)
  have htB : ∀ e, (aTok m c (ix1 (pairB e))).toNat = (b e).val := by
    intro e
    rw [ht, pairs_apply, if_neg (by show ¬ (2 * e.val + 1) % 2 < 1; omega)]
    have he : (⟨(pairB e).val / 2, by have := (pairB e).isLt; omega⟩ : Fin 8) = e :=
      Fin.ext (by show (2 * e.val + 1) / 2 = e.val; omega)
    rw [he]
    exact (congrArg BitVec.toNat (h2 e)).trans (hto _)
  unfold MoeRef.refOf
  rw [MoeRef.out_apply, ← zOf_eq, aB2_apply, add_comm]
  refine congrArg (· + _) ?_
  have key := sum_eq
    (fun w => MoeRef.hiddenOf (argX m c) (argW1 m c) (argB1 m c) (ix4 (0 : Fin 1) i ⟨w.val / 8, by omega⟩ ⟨w.val % 8, by omega⟩))
    (fun w => argW2 m c (ix2 w n))
    (fun w e => if h : e < 8 then soft (zOf m c) (ix4 (0 : Fin 1) i ⟨w.val / 8, by omega⟩ ⟨e, h⟩) else 0)
    (fun p => (aTok m c (ix1 p)).toNat) (fun e => (a e).val) (fun e => (b e).val)
    (fun e h => hab e (Fin.ext h)) htA htB i.val
  refine (Eq.trans ?_ key).trans ?_
  · refine Finset.sum_congr rfl fun p _ => ?_
    by_cases hi : i.val = (aTok m c (ix1 p)).toNat
    · rw [if_pos hi, if_pos hi]
      refine Finset.sum_congr rfl fun w _ => ?_
      have hi' : (⟨(aTok m c (ix1 p)).toNat, aTok_lt m c _⟩ : Fin 2048) = i := Fin.ext hi.symm
      unfold term
      rw [hidden_eq m c p w i hi, aS_apply, aW2_eq, hi', dif_pos (show p.val / 2 < 8 by omega)]
    · rw [if_neg hi, if_neg hi]
  · refine Finset.sum_congr rfl fun w _ => ?_
    rw [dif_pos (show w.val % 8 < 8 by omega), MoeRef.mask_apply _ (fun e q => by rw [htop]; split <;> exact Fin.isLt _)]
    refine congrArg (· * _) (congrArg₂ _ rfl (if_congr ?_ rfl rfl))
    simp only [htop]
    constructor
    · rintro (h | h)
      · exact ⟨0, h⟩
      · exact ⟨1, h⟩
    · rintro ⟨q, h⟩
      fin_cases q
      · exact Or.inl h
      · exact Or.inr h

end Cert.Moe

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Gen.ReferenceIdeal.Run
public import proofs.«01_k».proof.Proof.Gen.ReferenceIdeal
public import proofs.«01_k».proof.Proof.Tokens
public import proofs.«01_k».proof.Proof.TokensBits
public import proofs.«01_k».proof.Proof.Equation
public import Idealize.ShloMosaic.Lib.Claim

@[expose] public section

noncomputable section

namespace Cert.Proof

open Idealize.ShloMosaic Idealize.SL.Sem

/-- The kernel runs at the machine's floats, and leaves its arguments as they were. -/
theorem frame_kernel : Cert.quiescent_Kernel :=
  fun m g _ => Cert.Kernel.Gen.frame m g (Cert.MoeBits.hyps m)

/-- The kernel runs at the extended reals, and leaves its arguments as they were. -/
theorem frame_kernelIdeal : Cert.quiescent_KernelIdeal :=
  fun m g _ => Cert.KernelIdeal.Gen.frame m g (Cert.Moe.hyps m)

/-- The reference runs at the extended reals, and leaves its arguments as they were. -/
theorem frame_referenceIdeal : Cert.quiescent_ReferenceIdeal := by
  intro m g _
  refine (θ_run Cert.ReferenceIdeal.defs _ _).mono (fun r h => ⟨fun c => (h c).2, ?_⟩)
    (Cert.ReferenceIdeal.Value.run (F := Ideal) m g)
  exact sem_eq_zero_of_no_sems (by decide) r.2

/-- On finite tokens and a finite gate the kernel and the reference end with equal results. -/
theorem values : Cert.algebraic_KernelIdeal_ReferenceIdeal_pre_finite (hPre_finite := Cert.Moe.pre_facts) := by
  intro m g m' g' hpre hargs
  refine ⟨fun c => (Cert.KernelIdeal.Gen.dats m (Cert.Moe.hyps m) 0 c).arrAt 7 Cert.KernelIdeal.cfg0.N,
    Cert.KernelIdeal.Value.run_blocks (F := Ideal) m g (Cert.Moe.hyps m), ?_⟩
  refine (θ_run Cert.ReferenceIdeal.defs _ _).mono (fun r h c => ⟨(h c).1.trans ?_, (h c).2⟩)
    (Cert.ReferenceIdeal.Value.run (F := Ideal) m' g')
  obtain ⟨hx, hg⟩ := Cert.Moe.real_of_pre _ _ _ _ _ _ (hpre c)
  obtain ⟨e0, e1, e2, e3, e4, e5⟩ := hargs c
  rw [Cert.MoeRef.result_eq, e0, e1, e2, e3, e4, e5]
  exact (Cert.Moe.array_eq m (Cert.Moe.hyps m) c hx hg).symm

/-- The claims. -/
theorem claim : Cert.Claim :=
  ⟨Cert.Kernel.Gen.facts, Cert.KernelIdeal.Gen.facts, Cert.ReferenceIdeal.Gen.facts, Cert.Moe.pre_facts,
    frame_kernel, frame_kernelIdeal, fun m g _ => frame_kernelIdeal m g trivial,
    frame_referenceIdeal, fun m g _ => frame_referenceIdeal m g trivial, trivial, values⟩

end Cert.Proof

end
